-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x2048 : Shape := ⟨3, ![4, 2048, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  bcast_S_S8x2048 : S_.BroadcastsInDim S8x2048 (![] : Fin 0 → Fin S8x2048.rank)
  bcast_S_S8 : S_.BroadcastsInDim S8 (![] : Fin 0 → Fin S8.rank)
  bcast_S_S2048x2048 : S_.BroadcastsInDim S2048x2048 (![] : Fin 0 → Fin S2048x2048.rank)

variable [Facts]

def fn {F : FTy → Type} [FloatOps F] (main_arg0 : FVec F S4x2048x2048 .f32) (main_arg1 : FVec F S8x2048 .f32) (main_arg2 : FVec F S8 .f32) (main_arg3 : FVec F S2048x2048 .f32) (main_arg4 : FVec F S2048 .f32) : IVec S4x2048x2048 1 × IVec S8x2048 1 × IVec S8 1 × IVec S2048x2048 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S8x2048 .f32 := Host.absf main_arg1
  let main_cst_0 : FVec F S_ .f32 := constant S_ .f32 0x7F800000#32
  let main_v4 : FVec F S8x2048 .f32 := broadcastInDim S8x2048 ![] bcast_S_S8x2048 main_cst_0
  let main_v5 : IVec S8x2048 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  (main_v2, main_v5, main_v8, main_v11)
-- ==== Kernel.lean ====
abbrev S4x2048x2048 : Shape := ⟨3, ![4, 2048, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S8192x2048 : Shape := ⟨2, ![8192, 2048]⟩
abbrev S1x8 : Shape := ⟨2, ![1, 8]⟩
abbrev S1x2048 : Shape := ⟨2, ![1, 2048]⟩
abbrev S1024x2048 : Shape := ⟨2, ![1024, 2048]⟩
abbrev S2x2048 : Shape := ⟨2, ![2, 2048]⟩
abbrev S4x512x2048 : Shape := ⟨3, ![4, 512, 2048]⟩
abbrev S4x512x512 : Shape := ⟨3, ![4, 512, 512]⟩
abbrev S4 : Shape := ⟨1, ![4]⟩
abbrev S4x16 : Shape := ⟨2, ![4, 16]⟩
abbrev S1024x8 : Shape := ⟨2, ![1024, 8]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S_ : Shape := ⟨0, ![]⟩
abbrev S1x512x2048 : Shape := ⟨3, ![1, 512, 2048]⟩
abbrev S512x2048 : Shape := ⟨2, ![512, 2048]⟩
abbrev S1x512 : Shape := ⟨2, ![1, 512]⟩
abbrev S512x512 : Shape := ⟨2, ![512, 512]⟩
abbrev S1x512x512 : Shape := ⟨3, ![1, 512, 512]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8x2048, .f32⟩
  | .hbm, ⟨2, _⟩ => ⟨S8, .f32⟩
  | .hbm, ⟨3, _⟩ => ⟨S2048x2048, .f32⟩
  | .hbm, ⟨4, _⟩ => ⟨S2048, .f32⟩
  | .hbm, ⟨5, _⟩ => ⟨S8192x2048, .f32⟩
  | .hbm, ⟨6, _⟩ => ⟨S1x8, .f32⟩
  | .hbm, ⟨7, _⟩ => ⟨S1x2048, .f32⟩
  | .hbm, ⟨8, _⟩ => ⟨S8192x2048, .f32⟩
  | .hbm, ⟨9, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S1x8, .f32⟩
  | .local _ .vmem, ⟨4, _⟩ => ⟨S1x2048, .f32⟩
  | .local _ .vmem, ⟨5, _⟩ => ⟨S2x2048, .f32⟩
  | .local _ .vmem, ⟨6, _⟩ => ⟨S4x512x2048, .f32⟩
  | .local _ .vmem, ⟨7, _⟩ => ⟨S4x512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4x2048x2048 : Shape := ⟨3, ![4, 2048, 2048]⟩
abbrev S8x2048 : Shape := ⟨2, ![8, 2048]⟩
abbrev S8 : Shape := ⟨1, ![8]⟩
abbrev S2048x2048 : Shape := ⟨2, ![2048, 2048]⟩
abbrev S2048 : Shape := ⟨1, ![2048]⟩
abbrev S8192x2048 : Shape := ⟨2, ![8192, 2048]⟩
abbrev S2048x8 : Shape := ⟨2, ![2048, 8]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8x2048, .f32⟩
  | .hbm, ⟨2, _⟩ => ⟨S8, .f32⟩
  | .hbm, ⟨3, _⟩ => ⟨S2048x2048, .f32⟩
  | .hbm, ⟨4, _⟩ => ⟨S2048, .f32⟩
  | .hbm, ⟨5, _⟩ => ⟨S8192x2048, .f32⟩
  | .hbm, ⟨6, _⟩ => ⟨S2048x8, .f32⟩
  | .hbm, ⟨7, _⟩ => ⟨S8192x8, .f32⟩
  | .hbm, ⟨8, _⟩ => ⟨S1x8, .f32⟩
  | .hbm, ⟨9, _⟩ => ⟨S8192x8, .f32⟩
  | .hbm, ⟨10, _⟩ => ⟨S8192x8, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192, .f32⟩
  | .hbm, ⟨27, _⟩ => ⟨S8192x8, .i32⟩
  | .hbm, ⟨28, _⟩ => ⟨S_, .f32⟩
  | .hbm, ⟨29, _⟩ => ⟨S_, .i32⟩
  | .hbm, ⟨30, _⟩ => ⟨S8192, .f32⟩
  | .hbm, ⟨31, _⟩ => ⟨S8192, .i32⟩
  | .hbm, ⟨32, _⟩ => ⟨S8192x1, .i32⟩
  | .hbm, ⟨33, _⟩ => ⟨S1x8, .i32⟩
  | .hbm, ⟨34, _⟩ => ⟨S8192x8, .i32⟩
  | .hbm, ⟨35, _⟩ => ⟨S8192x8, .i32⟩
  | .hbm, ⟨36, _⟩ => ⟨S8192x8, .i1⟩
  | .hbm, ⟨37, _⟩ => ⟨S8192x8, .f32⟩
  | .hbm, ⟨38, _⟩ => ⟨S2048x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v18 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Proof.KernelIdeal.Prog.lean ====
/-
  The kernel body as a sequence of named steps. The printed body is one long text of literal offsets; here each
  transfer, wait, load and store is a program over the chunk number `c : Fin 4` (512 columns of the result, 512 rows of
  the second weight matrix) and the stripe number `r : Fin 16` (512 rows of the result), and the body at each of the
  twelve grid points is shown to be, by definitional unfolding, a short sequence of those.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! ## The operands -/

/-- The second weight matrix and the result, left in HBM. -/
abbrev hbW : Memref sig .tc .hbm S2048x2048 .f32 := Memref.whole main_arg3
abbrev hbO : Memref sig .tc .hbm S8192x2048 .f32 := Memref.whole main_v3
/-- The accumulator, the four weight buffers, the four stripe buffers. -/
abbrev scA : Memref sig .tc .vmem S2x2048 .f32 := Memref.whole cc0_scratch0
abbrev scW : Memref sig .tc .vmem S4x512x2048 .f32 := Memref.whole cc0_scratch1
abbrev scS : Memref sig .tc .vmem S4x512x512 .f32 := Memref.whole cc0_scratch2

theorem inb_wslot (c : Fin 4) : ∀ a, (![c.val, 0, 0] : Fin 3 → ℕ) a + S1x512x2048.size a ≤ S4x512x2048.size a := by
  intro a; fin_cases a
  · show c.val + 1 ≤ 4; omega
  · show 0 + 512 ≤ 512; omega
  · show 0 + 2048 ≤ 2048; omega
theorem inb_sslot (c : Fin 4) : ∀ a, (![c.val, 0, 0] : Fin 3 → ℕ) a + S1x512x512.size a ≤ S4x512x512.size a := by
  intro a; fin_cases a
  · show c.val + 1 ≤ 4; omega
  · show 0 + 512 ≤ 512; omega
  · show 0 + 512 ≤ 512; omega
theorem inb_wrows (c : Fin 4) : ∀ a, (![512 * c.val, 0] : Fin 2 → ℕ) a + S512x2048.size a ≤ S2048x2048.size a := by
  intro a; fin_cases a
  · show 512 * c.val + 512 ≤ 2048; omega
  · show 0 + 2048 ≤ 2048; omega
theorem inb_bcols (c : Fin 4) : ∀ a, (![0, 512 * c.val] : Fin 2 → ℕ) a + S1x512.size a ≤ S1x2048.size a := by
  intro a; fin_cases a
  · show 0 + 1 ≤ 1; omega
  · show 512 * c.val + 512 ≤ 2048; omega
theorem inb_owin (c : Fin 4) (r : Fin 16) :
    ∀ a, (![512 * r.val, 512 * c.val] : Fin 2 → ℕ) a + S512x512.size a ≤ S8192x2048.size a := by
  intro a; fin_cases a
  · show 512 * r.val + 512 ≤ 8192; omega
  · show 512 * c.val + 512 ≤ 2048; omega

/-- The boxes: weight buffer `c`, stripe buffer `c`, rows `512c ..` of the weight matrix, entries `512c ..` of the
    bias, and the window of stripe `r` and chunk `c` of the result. -/
abbrev wslotR (c : Fin 4) : Rect S4x512x2048 := Rect.unit (s := S4x512x2048) ![c.val, 0, 0] S1x512x2048.size (inb_wslot c)
abbrev sslotR (c : Fin 4) : Rect S4x512x512 := Rect.unit (s := S4x512x512) ![c.val, 0, 0] S1x512x512.size (inb_sslot c)
abbrev wrowsR (c : Fin 4) : Rect S2048x2048 := Rect.unit (s := S2048x2048) ![512 * c.val, 0] S512x2048.size (inb_wrows c)
abbrev bcolsR (c : Fin 4) : Rect S1x2048 := Rect.unit (s := S1x2048) ![0, 512 * c.val] S1x512.size (inb_bcols c)
abbrev owinR (c : Fin 4) (r : Fin 16) : Rect S8192x2048 :=
  Rect.unit (s := S8192x2048) ![512 * r.val, 512 * c.val] S512x512.size (inb_owin c r)

/-- The same as the transfers' ends. -/
abbrev wslot (c : Fin 4) : Memref sig .tc .vmem S512x2048 .f32 :=
  (scW.slice (wslotR c) (fun _ => rfl)).squeeze S512x2048 squeezes_S1x512x2048_S512x2048
abbrev wrows (c : Fin 4) : Memref sig .tc .hbm S512x2048 .f32 := hbW.slice (wrowsR c) (fun _ => rfl)
abbrev sslot (c : Fin 4) : Memref sig .tc .vmem S512x512 .f32 :=
  (scS.slice (sslotR c) (fun _ => rfl)).squeeze S512x512 squeezes_S1x512x512_S512x512
abbrev owin (c : Fin 4) (r : Fin 16) : Memref sig .tc .hbm S512x512 .f32 := hbO.slice (owinR c r) (fun _ => rfl)

/-- The semaphore cells: one per weight buffer, one per chunk and stripe. -/
def semW (c : Fin 4) : DmaSem sig := ⟨5 + c.val, by show 5 + c.val < 73; omega⟩
def semS (c : Fin 4) (r : Fin 16) : DmaSem sig := ⟨9 + (16 * c.val + r.val), by show 9 + (16 * c.val + r.val) < 73; omega⟩

/-! ## The steps -/

/-- A piece of the kernel body, as a program of the tensor core. -/
abbrev Piece (F : FTy → Type) [FloatOps F] : Type 1 := Prog (TpuEff nD τ sig (Elt F) Λ₀ .tc) PUnit

/-- Start the copy of weight rows `512c ..` into weight buffer `c`; wait for it. -/
def issueW (c : Fin 4) : Piece F :=
  Prog.lift (.enqueueDma (wrows c) (.here (wslot c)) (.dma (semW c)) (View.wordExact_bits rfl) ((View.wordExact_bits rfl).reshape _ _) ⟨Or.inl rfl, trivial⟩)
def waitW (c : Fin 4) : Piece F :=
  Prog.lift (.waitDma2 (semW c) (wrows c) (wslot c) (View.wordExact_bits rfl) ((View.wordExact_bits rfl).reshape _ _))

/-- Start the copy of stripe buffer `c` into the result's window `(c, r)`; wait for it. -/
def issueS (c : Fin 4) (r : Fin 16) : Piece F :=
  Prog.lift (.enqueueDma (sslot c) (.here (owin c r)) (.dma (semS c r)) ((View.wordExact_bits rfl).reshape _ _) (View.wordExact_bits rfl) ⟨Or.inl rfl, trivial⟩)
def waitS (c : Fin 4) (r : Fin 16) : Piece F :=
  Prog.lift (.waitDma2 (semS c r) (sslot c) (owin c r) ((View.wordExact_bits rfl).reshape _ _) (View.wordExact_bits rfl))

/-- The same for a list of stripes, in order. -/
def issueSs (c : Fin 4) : List (Fin 16) → Piece F
  | [] => pure ⟨⟩
  | r :: l => do issueS c r; issueSs c l
def waitSs : List (Fin 4 × Fin 16) → Piece F
  | [] => pure ⟨⟩
  | p :: l => do waitS p.1 p.2; waitSs l

/-- The stripes, and the chunk-stripe pairs in the order the last point waits for them. -/
abbrev allR : List (Fin 16) := [0, 1, 2, 3, 4, 5, 6, 7, 8, 9, 10, 11, 12, 13, 14, 15]
abbrev allCR : List (Fin 4 × Fin 16) :=
  allR.map (fun r => (0, r)) ++ (allR.map (fun r => (1, r)) ++ (allR.map (fun r => (2, r)) ++ allR.map (fun r => (3, r))))

/-- Point 0: the sums over the first block of rows stored in the accumulator. -/
def firstRows (arg1 : Memref sig .tc .vmem S1024x2048 .f32) (arg2 : Memref sig .tc .vmem S8x2048 .f32) (arg3 : Memref sig .tc .vmem S1x8 .f32) : Piece F := do
  let v18 : Vec F S1024x2048 .f32 ← Prog.lift (.load arg1 (Rect.unit (s := S1024x2048) ![0, 0] S1024x2048.size inb_S1024x2048_S1024x2048_0_0).toLoadRect (View.loadsAt_vmem h_S1024x2048))
  let v20 : Vec F S8x2048 .f32 ← Prog.lift (.load arg2 (Rect.unit (s := S8x2048) ![0, 0] S8x2048.size inb_S8x2048_S8x2048_0_0).toLoadRect (View.loadsAt_vmem h_S8x2048))
  let v22 : Vec F S1x8 .f32 ← Prog.lift (.load arg3 (Rect.unit (s := S1x8) ![0, 0] S1x8.size inb_S1x8_S1x8_0_0).toLoadRect (View.loadsAt_vmem h_S1x8))
  let _ : Vec F S2x2048 .f32 ← Prog.lift (.load scA (Rect.unit (s := S2x2048) ![0, 0] S2x2048.size inb_S2x2048_S2x2048_0_0).toLoadRect (View.loadsAt_vmem h_S2x2048))
  Prog.lift (.store scA (Rect.unit (s := S2x2048) ![0, 0] S2x2048.size inb_S2x2048_S2x2048_0_0) (k0_pay2 v18 v20 v22) Finset.univ (View.stores_vmem_bits_univ h_S2x2048 rfl) (.inl rfl))
  pure ⟨⟩

/-- Points 1 to 7: the sums over a later block added to the accumulator. -/
def nextRows (arg1 : Memref sig .tc .vmem S1024x2048 .f32) (arg2 : Memref sig .tc .vmem S8x2048 .f32) (arg3 : Memref sig .tc .vmem S1x8 .f32) : Piece F := do
  let v18 : Vec F S1024x2048 .f32 ← Prog.lift (.load arg1 (Rect.unit (s := S1024x2048) ![0, 0] S1024x2048.size inb_S1024x2048_S1024x2048_0_0).toLoadRect (View.loadsAt_vmem h_S1024x2048))
  let v20 : Vec F S8x2048 .f32 ← Prog.lift (.load arg2 (Rect.unit (s := S8x2048) ![0, 0] S8x2048.size inb_S8x2048_S8x2048_0_0).toLoadRect (View.loadsAt_vmem h_S8x2048))
  let v22 : Vec F S1x8 .f32 ← Prog.lift (.load arg3 (Rect.unit (s := S1x8) ![0, 0] S1x8.size inb_S1x8_S1x8_0_0).toLoadRect (View.loadsAt_vmem h_S1x8))
  let v47 : Vec F S2x2048 .f32 ← Prog.lift (.load scA (Rect.unit (s := S2x2048) ![0, 0] S2x2048.size inb_S2x2048_S2x2048_0_0).toLoadRect (View.loadsAt_vmem h_S2x2048))
  let _ : Vec F S2x2048 .f32 ← Prog.lift (.load scA (Rect.unit (s := S2x2048) ![0, 0] S2x2048.size inb_S2x2048_S2x2048_0_0).toLoadRect (View.loadsAt_vmem h_S2x2048))
  Prog.lift (.store scA (Rect.unit (s := S2x2048) ![0, 0] S2x2048.size inb_S2x2048_S2x2048_0_0) (k0_pay3 v18 v20 v22 v47) Finset.univ (View.stores_vmem_bits_univ h_S2x2048 rfl) (.inl rfl))
  pure ⟨⟩

/-- Points 8 to 11, between the wait and the copies out: chunk `c` of the one output row, broadcast into stripe buffer `c`. -/
def fillS (c : Fin 4) (arg5 : Memref sig .tc .vmem S1x2048 .f32) : Piece F := do
  let v28 : Vec F S1x2048 .f32 ← Prog.lift (.load scA (Rect.unit (s := S2x2048) ![0, 0] S1x2048.size inb_S2x2048_S1x2048_0_0).toLoadRect (View.loadsAt_vmem h_S1x2048))
  let v29 : Vec F S1x1 .f32 ← Prog.lift (.load scA (Rect.unit (s := S2x2048) ![1, 0] S1x1.size inb_S2x2048_S1x1_1_0).toLoadRect (View.loadsAt_vmem h_S1x1))
  let v31 : Vec F S1x512x2048 .f32 ← Prog.lift (.load scW (wslotR c).toLoadRect (View.loadsAt_vmem h_S1x512x2048))
  let v34 : Vec F S1x512 .f32 ← Prog.lift (.load arg5 (bcolsR c).toLoadRect (View.loadsAt_vmem h_S1x512))
  let _ : Vec F S1x512x512 .f32 ← Prog.lift (.load scS (sslotR c).toLoadRect (View.loadsAt_vmem h_S1x512x512))
  Prog.lift (.store scS (sslotR c) (k0_pay4 v28 v29 v31 v34) Finset.univ (View.stores_vmem_bits_univ h_S1x512x512 rfl) (.inl rfl))
  pure ⟨⟩

/-! ## The body at each grid point -/

/-- Grid point number `8 + c`, the one that computes chunk `c`. -/
abbrev tC (c : Fin 4) : Fin cfg0.N := Fin.cast N_0.symm ⟨8 + c.val, by omega⟩

theorem body_first : bodyAt0 (F := F) t0_0 = firstRows (st0_0 t0_0) (st0_1 t0_0) (st0_2 t0_0) := by
  sl_kernel_rfl

theorem body_next (n : Fin 12) (h1 : 1 ≤ n.val) (h7 : n.val ≤ 7) (h6 : n.val ≠ 6) :
    bodyAt0 (F := F) (Fin.cast N_0.symm n)
      = nextRows (st0_0 (Fin.cast N_0.symm n)) (st0_1 (Fin.cast N_0.symm n)) (st0_2 (Fin.cast N_0.symm n)) := by
  fin_cases n <;> first | (exfalso; revert h1 h7 h6; decide) | sl_kernel_rfl

theorem body_six : bodyAt0 (F := F) t0_6 = (do nextRows (st0_0 t0_6) (st0_1 t0_6) (st0_2 t0_6); issueW 0) := by
  sl_kernel_rfl

theorem body_chunk (c : Fin 4) (h : c.val < 3) :
    bodyAt0 (F := F) (tC c) = (do issueW (c + 1); waitW c; fillS c (st0_3 (tC c)); issueSs c allR) := by
  fin_cases c <;> first | (exfalso; revert h; decide) | sl_kernel_rfl

theorem body_last :
    bodyAt0 (F := F) (tC 3) = (do waitW 3; fillS 3 (st0_3 (tC 3)); issueSs 3 allR; waitSs allCR) := by
  sl_kernel_rfl

end Cert.KernelIdeal.Hand

end
-- ==== Proof.KernelIdeal.Geo.lean ====
/-
  Where the pieces lie. The four weight buffers, the four stripe buffers, the four bands of rows of the second weight
  matrix and the 64 windows of the result each partition their buffer; what a copy or a store leaves on one piece agrees
  there with one content of the whole buffer (`wbF`, `sbF`, `outF`), so that the pieces can be put together again.
-/
module

public import proofs.«01_k».proof.Proof.KernelIdeal.Prog
public import Idealize.ShloMosaic.Lib.Pipeline.FrameBody
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which piece an element belongs to -/

def partW (i : S4x512x2048.Idx) : Fin 4 := i 0
def partS (i : S4x512x512.Idx) : Fin 4 := i 0
def partR (i : S2048x2048.Idx) : Fin 4 := ⟨(i 0).val / 512, by have : (i 0).val < 2048 := (i 0).isLt; omega⟩
def partO (i : S8192x2048.Idx) : Fin 4 × Fin 16 :=
  (⟨(i 1).val / 512, by have : (i 1).val < 2048 := (i 1).isLt; omega⟩,
   ⟨(i 0).val / 512, by have : (i 0).val < 8192 := (i 0).isLt; omega⟩)

theorem mem_wslot (k : Fin 4) (i : S4x512x2048.Idx) : i ∈ (wslot k).view.set ↔ partW i = k := by
  have e : (wslot k).view.set = (wslotR k).set := (View.set_reshape _ _).trans (View.set_slice_whole _ _)
  rw [e, Rect.mem_set_unit]
  constructor
  · intro h
    have h0 : k.val ≤ (i 0).val ∧ (i 0).val < k.val + 1 := h 0
    exact Fin.ext (by show (i 0).val = k.val; omega)
  · rintro rfl a
    fin_cases a
    · show (i 0).val ≤ (i 0).val ∧ (i 0).val < (i 0).val + 1; omega
    · have : (i 1).val < 512 := (i 1).isLt
      show 0 ≤ (i 1).val ∧ (i 1).val < 0 + 512; omega
    · have : (i 2).val < 2048 := (i 2).isLt
      show 0 ≤ (i 2).val ∧ (i 2).val < 0 + 2048; omega

theorem mem_sslot (k : Fin 4) (i : S4x512x512.Idx) : i ∈ (sslot k).view.set ↔ partS i = k := by
  have e : (sslot k).view.set = (sslotR k).set := (View.set_reshape _ _).trans (View.set_slice_whole _ _)
  rw [e, Rect.mem_set_unit]
  constructor
  · intro h
    have h0 : k.val ≤ (i 0).val ∧ (i 0).val < k.val + 1 := h 0
    exact Fin.ext (by show (i 0).val = k.val; omega)
  · rintro rfl a
    fin_cases a
    · show (i 0).val ≤ (i 0).val ∧ (i 0).val < (i 0).val + 1; omega
    · have : (i 1).val < 512 := (i 1).isLt
      show 0 ≤ (i 1).val ∧ (i 1).val < 0 + 512; omega
    · have : (i 2).val < 512 := (i 2).isLt
      show 0 ≤ (i 2).val ∧ (i 2).val < 0 + 512; omega

theorem mem_wrows (k : Fin 4) (i : S2048x2048.Idx) : i ∈ (wrows k).view.set ↔ partR i = k := by
  have e : (wrows k).view.set = (wrowsR k).set := View.set_slice_whole _ _
  rw [e, Rect.mem_set_unit]
  constructor
  · intro h
    have h0 : 512 * k.val ≤ (i 0).val ∧ (i 0).val < 512 * k.val + 512 := h 0
    exact Fin.ext (by show (i 0).val / 512 = k.val; omega)
  · rintro rfl a
    fin_cases a
    · show 512 * ((i 0).val / 512) ≤ (i 0).val ∧ (i 0).val < 512 * ((i 0).val / 512) + 512; omega
    · have : (i 1).val < 2048 := (i 1).isLt
      show 0 ≤ (i 1).val ∧ (i 1).val < 0 + 2048; omega

theorem mem_owin (p : Fin 4 × Fin 16) (i : S8192x2048.Idx) : i ∈ (owin p.1 p.2).view.set ↔ partO i = p := by
  have e : (owin p.1 p.2).view.set = (owinR p.1 p.2).set := View.set_slice_whole _ _
  rw [e, Rect.mem_set_unit]
  constructor
  · intro h
    have h0 : 512 * p.2.val ≤ (i 0).val ∧ (i 0).val < 512 * p.2.val + 512 := h 0
    have h1 : 512 * p.1.val ≤ (i 1).val ∧ (i 1).val < 512 * p.1.val + 512 := h 1
    exact Prod.ext (Fin.ext (by show (i 1).val / 512 = p.1.val; omega)) (Fin.ext (by show (i 0).val / 512 = p.2.val; omega))
  · rintro rfl a
    fin_cases a
    · show 512 * ((i 0).val / 512) ≤ (i 0).val ∧ (i 0).val < 512 * ((i 0).val / 512) + 512; omega
    · show 512 * ((i 1).val / 512) ≤ (i 1).val ∧ (i 1).val < 512 * ((i 1).val / 512) + 512; omega

/-- The store's box of stripe buffer `k` holds the elements of the copies' source. -/
theorem access_sslot (k : Fin 4) : (scS.access (sslotR k)).set = (sslot k).view.set := (View.set_reshape _ _).symm
theorem access_wslot (k : Fin 4) : (scW.access (wslotR k)).set = (wslot k).view.set := (View.set_reshape _ _).symm

/-! ## The contents of the whole buffers -/

/-- A content to write over; no element of it is left. -/
def blankW : cc0_scratch1.ty.Contents (Elt F) := fun _ => (Scalar.ofBits .f32 0x00000000#32 : F .f32)
def blankS : cc0_scratch2.ty.Contents (Elt F) := fun _ => (Scalar.ofBits .f32 0x00000000#32 : F .f32)
def blankO : main_v3.ty.Contents (Elt F) := fun _ => (Scalar.ofBits .f32 0x00000000#32 : F .f32)

/-- The weight buffers when all four copies have landed. -/
def wbF (We : main_arg3.ty.Contents (Elt F)) : cc0_scratch1.ty.Contents (Elt F) := fun i =>
  (wslot (partW i)).view.write (Elt F) blankW ((wrows (partW i)).view.read (Elt F) We) Finset.univ i

/-- What point `8 + k` stores: chunk `k` of the one output row, on every row of the stripe. -/
def fillF (k : Fin 4) (ac : cc0_scratch0.ty.Contents (Elt F)) (wb : cc0_scratch1.ty.Contents (Elt F)) (be : S1x2048.Idx → Elt F .f32) :
    S1x512x512.Idx → Elt F .f32 :=
  k0_pay4 (scA.view.readAt (Elt F) (Rect.unit (s := S2x2048) ![0, 0] S1x2048.size inb_S2x2048_S1x2048_0_0).toLoadRect ac)
    (scA.view.readAt (Elt F) (Rect.unit (s := S2x2048) ![1, 0] S1x1.size inb_S2x2048_S1x1_1_0).toLoadRect ac)
    (scW.view.readAt (Elt F) (wslotR k).toLoadRect wb)
    (fun x => be ((bcolsR k).emb x))

/-- The stripe buffers when all four have been filled. -/
def sbF (ac : cc0_scratch0.ty.Contents (Elt F)) (wb : cc0_scratch1.ty.Contents (Elt F)) (be : S1x2048.Idx → Elt F .f32) :
    cc0_scratch2.ty.Contents (Elt F) := fun i =>
  (scS.access (sslotR (partS i))).write (Elt F) blankS (fillF (partS i) ac wb be) Finset.univ i

/-- The result when all 64 copies have landed. -/
def outF (sb : cc0_scratch2.ty.Contents (Elt F)) : main_v3.ty.Contents (Elt F) := fun i =>
  (owin (partO i).1 (partO i).2).view.write (Elt F) blankO ((sslot (partO i).1).view.read (Elt F) sb) Finset.univ i

/-- Writing through a whole view decides every element under it, whatever was there. -/
theorem write_univ_congr {sp : Space} {s : Shape} {e : EltTy} (v : View sig .tc sp s e) (f g : v.ty.Contents (Elt F))
    (w : s.Idx → Elt F e) (i : v.ty.Idx) (hi : i ∈ v.set) :
    v.write (Elt F) f w Finset.univ i = v.write (Elt F) g w Finset.univ i := by
  obtain ⟨x, -, rfl⟩ := Finset.mem_map.mp hi
  rw [View.write_emb_of_mem _ _ (Finset.mem_univ x), View.write_emb_of_mem _ _ (Finset.mem_univ x)]

theorem land_W (We : main_arg3.ty.Contents (Elt F)) (k : Fin 4) (f : cc0_scratch1.ty.Contents (Elt F)) (i : S4x512x2048.Idx)
    (hi : i ∈ (wslot k).view.set) :
    (wslot k).view.write (Elt F) f ((wrows k).view.read (Elt F) We) Finset.univ i = wbF We i := by
  unfold wbF
  rw [(mem_wslot k i).mp hi]
  exact write_univ_congr _ _ _ _ _ hi

theorem land_S (ac : cc0_scratch0.ty.Contents (Elt F)) (wb : cc0_scratch1.ty.Contents (Elt F)) (be : S1x2048.Idx → Elt F .f32)
    (k : Fin 4) (f : cc0_scratch2.ty.Contents (Elt F)) (i : S4x512x512.Idx) (hi : i ∈ (sslot k).view.set) :
    (scS.access (sslotR k)).write (Elt F) f (fillF k ac wb be) Finset.univ i = sbF ac wb be i := by
  unfold sbF
  rw [(mem_sslot k i).mp hi]
  exact write_univ_congr _ _ _ _ _ ((access_sslot k).symm ▸ hi)

theorem land_O (sb : cc0_scratch2.ty.Contents (Elt F)) (p : Fin 4 × Fin 16) (f : main_v3.ty.Contents (Elt F)) (i : S8192x2048.Idx)
    (hi : i ∈ (owin p.1 p.2).view.set) :
    (owin p.1 p.2).view.write (Elt F) f ((sslot p.1).view.read (Elt F) sb) Finset.univ i = outF sb i := by
  unfold outF
  rw [(mem_owin p i).mp hi]
  exact write_univ_congr _ _ _ _ _ hi

/-- The value stored in a stripe buffer only needs the weight buffer it reads. -/
theorem fillF_congr (k : Fin 4) (ac : cc0_scratch0.ty.Contents (Elt F)) (wb wb' : cc0_scratch1.ty.Contents (Elt F))
    (be : S1x2048.Idx → Elt F .f32) (h : ∀ i ∈ (wslot k).view.set, wb i = wb' i) : fillF k ac wb be = fillF k ac wb' be := by
  have e : scW.view.readAt (Elt F) (wslotR k).toLoadRect wb = scW.view.readAt (Elt F) (wslotR k).toLoadRect wb' :=
    View.read_congr (v := scW.access (wslotR k)) fun i hi => h i (access_wslot k ▸ hi)
  unfold fillF; rw [e]

/-! ## Splitting a buffer -/

/-- A buffer is held whole exactly when it is held piece by piece. -/
theorem pieces_eq {T : Type} [Fintype T] [DecidableEq T] {ℓ : Loc nD τ sig}
    (K : T → Finset (Idx ℓ)) (part : Idx ℓ → T) (h : ∀ t i, i ∈ K t ↔ part i = t) (q : PosShare TreeShare) (f : Buf (Elt F) ℓ) :
    (ℓ ↦{q} f : sProp (MT nD τ sig Unit (Elt F) ℕ (Pipeline.UD sig nD τ) ℕ)) = bigSep Finset.univ fun t => ℓ ↦[K t]{q} f := by
  rw [← pointsTo_biUnion]
  · congr 1
    ext i
    simp only [Finset.mem_univ, Finset.mem_biUnion, true_and, true_iff]
    exact ⟨part i, (h _ i).mpr rfl⟩
  · intro t _ t' _ hne
    rw [Finset.disjoint_left]
    intro i hi hi'
    exact hne (((h t i).mp hi).symm.trans ((h t' i).mp hi'))

end Cert.KernelIdeal.Hand

end
-- ==== Proof.KernelIdeal.Steps.lean ====
/-
  What each named step of the body does to the buffers. Every theorem is an entailment from what the step needs to what
  it leaves, for any continuation: a copy out of the weight matrix (issue, wait), the stripe copies into the result
  (issue, wait, and lists of them), the accumulation of a block of rows, and the filling of a stripe buffer.
-/
module

public import proofs.«01_k».proof.Proof.KernelIdeal.Geo

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F]

/-- The proof's algebra: the pipeline library's beside the transfers' counters. -/
local notation "𝕄" => MT nD τ sig Unit (Elt F) ℕ (Pipeline.UD sig nD τ) ℕ

/-- A piece of the body run on core `c` to the continuation `Q`. -/
abbrev run (c : Dev nD) (p : Piece F) (Q : PUnit → sProp 𝕄) : sProp 𝕄 :=
  wp frame (wpE (defs₀ (F := F)) Variants.none (c : Thread nD τ) none) Set.univ p Q

/-- A list's chain of assertions is the first beside the rest. -/
theorem listSep_cons {I : Type} (i : I) (l : List I) (Φ : I → sProp 𝕄) :
    bigSepL (i :: l) Φ = iprop(Φ i ∗ bigSepL l Φ) := bigSepL_cons i l Φ

/-! ## The assertions -/

abbrev wPt (c : Dev nD) (k : Fin 4) (f : cc0_scratch1.ty.Contents (Elt F)) : sProp 𝕄 :=
  (wslot k).view.loc (c : Thread nD τ) ↦[(wslot k).view.set]{fullShare} f
abbrev rPt (c : Dev nD) (k : Fin 4) (f : main_arg3.ty.Contents (Elt F)) : sProp 𝕄 :=
  (wrows k).view.loc (c : Thread nD τ) ↦[(wrows k).view.set]{fullShare} f
abbrev sPt (c : Dev nD) (k : Fin 4) (q : PosShare TreeShare) (f : cc0_scratch2.ty.Contents (Elt F)) : sProp 𝕄 :=
  (sslot k).view.loc (c : Thread nD τ) ↦[(sslot k).view.set]{q} f
abbrev oPt (c : Dev nD) (p : Fin 4 × Fin 16) (f : main_v3.ty.Contents (Elt F)) : sProp 𝕄 :=
  (owin p.1 p.2).view.loc (c : Thread nD τ) ↦[(owin p.1 p.2).view.set]{fullShare} f
abbrev aPt (c : Dev nD) (f : cc0_scratch0.ty.Contents (Elt F)) : sProp 𝕄 :=
  scA.view.loc (c : Thread nD τ) ↦[scA.view.set]{fullShare} f
abbrev zW (c : Dev nD) (k : Fin 4) : sProp 𝕄 := semVal ((c : Thread nD τ), SemLoc.dma (semW k)) 0
abbrev zS (c : Dev nD) (p : Fin 4 × Fin 16) : sProp 𝕄 := semVal ((c : Thread nD τ), SemLoc.dma (semS p.1 p.2)) 0
/-- The core owes nothing; which waits it has made is not recorded. -/
abbrev OW (c : Dev nD) : sProp 𝕄 := iprop(∃ W, owes (c : Thread nD τ) (0 : CellTallies nD τ sig Unit) W)

/-- The copy of weight rows `512k ..` in flight: its wait gives weight buffer `k` at the rows, and the rows back. -/
abbrev flW (c : Dev nD) (k : Fin 4) (We : main_arg3.ty.Contents (Elt F)) : sProp 𝕄 :=
  Transfers.Flight (countersEmb (U := Pipeline.UD sig nD τ)) (c : Thread nD τ) (SemLoc.dma (semW k)) () (wslot k).view.dmaCredit
    iprop(wPt c k (wbF We) ∗ rPt c k We)
/-- The copy of stripe buffer `p.1` into window `p` in flight: its wait gives the window at the stripe, and the read
    share of the buffer back. -/
abbrev flS (c : Dev nD) (p : Fin 4 × Fin 16) (q : PosShare TreeShare) (sb : cc0_scratch2.ty.Contents (Elt F)) : sProp 𝕄 :=
  Transfers.Flight (countersEmb (U := Pipeline.UD sig nD τ)) (c : Thread nD τ) (SemLoc.dma (semS p.1 p.2)) () (owin p.1 p.2).view.dmaCredit
    iprop(oPt c p (outF sb) ∗ sPt c p.1 q sb)

/-! ## Copies -/

theorem step_issueW (c : Dev nD) (k : Fin 4) (We : main_arg3.ty.Contents (Elt F)) (f : cc0_scratch1.ty.Contents (Elt F))
    (Q : PUnit → sProp 𝕄) :
    iprop(wPt c k f ∗ rPt c k We ∗ zW c k) ⊢ iprop((flW c k We -∗ Q ⟨⟩) -∗ run c (issueW k) Q) := by
  have h := Transfers.wp_dmaLocal (countersEmb (U := Pipeline.UD sig nD τ)) (defs := defs₀ (F := F)) Variants.none (c : Thread nD τ) none
    (src := wrows k) (via := ReadAs.same) (dst := wslot k) (sm := SemLoc.dma (semW k)) (hsrc := View.wordExact_bits rfl)
    (hdst := (View.wordExact_bits rfl).reshape _ _) (hsem := ⟨Or.inl rfl, trivial⟩) (k := .ret) (q := fullShare) (fs := We)
    (Sd := (wslot k).view.set) (fd := f) (Q := Q) () (wslot k).view.dmaCredit rfl (View.dmaCredit_pos _ (by decide)) (Finset.Subset.refl _)
  have e : (wPt c k ((wslot k).view.write (Elt F) f (ReadAs.same.apply ((wrows k).view.read (Elt F) We)) Finset.univ) : sProp 𝕄)
      = wPt c k (wbF We) := pointsTo_congr fun i hi => land_W We k f i hi
  dsimp only [wPt] at e
  rw [e] at h
  iintro ⟨Hw, Hr, Hz⟩ Hk
  iapply h $$ [Hw Hr Hz]
  · isplitl [Hr]; · iexact Hr
    isplitl [Hw] <;> iassumption
  iintro H
  rw [wp_ret]; imodintro
  iapply Hk; iexact H

theorem step_waitW (c : Dev nD) (k : Fin 4) (We : main_arg3.ty.Contents (Elt F)) (Q : PUnit → sProp 𝕄) :
    iprop(flW c k We ∗ OW c) ⊢ iprop((iprop(wPt c k (wbF We) ∗ rPt c k We ∗ zW c k ∗ OW c) -∗ Q ⟨⟩) -∗ run c (waitW k) Q) := by
  iintro ⟨Hf, ⟨%W, HO⟩⟩ Hk
  iapply (Transfers.wp_waitLocal (countersEmb (U := Pipeline.UD sig nD τ)) (defs := defs₀ (F := F)) Variants.none (c : Thread nD τ) none
    (sem := semW k) (srcw := wrows k) (dstw := wslot k) (hsrc := View.wordExact_bits rfl)
    (hdst := (View.wordExact_bits rfl).reshape _ _) (k := .ret) (Q := Q) () rfl) $$ [Hf HO]
  · isplitl [Hf] <;> iassumption
  iintro ⟨⟨Hw, Hr⟩, Hz, HO⟩
  rw [wp_ret]; imodintro
  iapply Hk
  isplitl [Hw]; · iexact Hw
  isplitl [Hr]; · iexact Hr
  isplitl [Hz]; · iexact Hz
  iexists _; iexact HO

theorem step_issueS (c : Dev nD) (p : Fin 4 × Fin 16) (q : PosShare TreeShare) (sb : cc0_scratch2.ty.Contents (Elt F))
    (f : main_v3.ty.Contents (Elt F)) (Q : PUnit → sProp 𝕄) :
    iprop(oPt c p f ∗ sPt c p.1 q sb ∗ zS c p) ⊢ iprop((flS c p q sb -∗ Q ⟨⟩) -∗ run c (issueS p.1 p.2) Q) := by
  have h := Transfers.wp_dmaLocal (countersEmb (U := Pipeline.UD sig nD τ)) (defs := defs₀ (F := F)) Variants.none (c : Thread nD τ) none
    (src := sslot p.1) (via := ReadAs.same) (dst := owin p.1 p.2) (sm := SemLoc.dma (semS p.1 p.2)) (hsrc := (View.wordExact_bits rfl).reshape _ _)
    (hdst := View.wordExact_bits rfl) (hsem := ⟨Or.inl rfl, trivial⟩) (k := .ret) (q := q) (fs := sb)
    (Sd := (owin p.1 p.2).view.set) (fd := f) (Q := Q) () (owin p.1 p.2).view.dmaCredit rfl (View.dmaCredit_pos _ (by decide)) (Finset.Subset.refl _)
  have e : (oPt c p ((owin p.1 p.2).view.write (Elt F) f (ReadAs.same.apply ((sslot p.1).view.read (Elt F) sb)) Finset.univ) : sProp 𝕄)
      = oPt c p (outF sb) := pointsTo_congr fun i hi => land_O sb p f i hi
  dsimp only [oPt] at e
  rw [e] at h
  iintro ⟨Ho, Hs, Hz⟩ Hk
  iapply h $$ [Ho Hs Hz]
  · isplitl [Hs]; · iexact Hs
    isplitl [Ho] <;> iassumption
  iintro H
  rw [wp_ret]; imodintro
  iapply Hk; iexact H

theorem step_waitS (c : Dev nD) (p : Fin 4 × Fin 16) (q : PosShare TreeShare) (sb : cc0_scratch2.ty.Contents (Elt F)) (Q : PUnit → sProp 𝕄) :
    iprop(flS c p q sb ∗ OW c)
      ⊢ iprop((iprop((oPt c p (outF sb) ∗ sPt c p.1 q sb ∗ zS c p) ∗ OW c) -∗ Q ⟨⟩) -∗ run c (waitS p.1 p.2) Q) := by
  iintro ⟨Hf, ⟨%W, HO⟩⟩ Hk
  iapply (Transfers.wp_waitLocal (countersEmb (U := Pipeline.UD sig nD τ)) (defs := defs₀ (F := F)) Variants.none (c : Thread nD τ) none
    (sem := semS p.1 p.2) (srcw := sslot p.1) (dstw := owin p.1 p.2) (hsrc := (View.wordExact_bits rfl).reshape _ _)
    (hdst := View.wordExact_bits rfl) (k := .ret) (Q := Q) () rfl) $$ [Hf HO]
  · isplitl [Hf] <;> iassumption
  iintro ⟨⟨Ho, Hs⟩, Hz, HO⟩
  rw [wp_ret]; imodintro
  iapply Hk
  isplitr [HO]
  · isplitl [Ho]; · iexact Ho
    isplitl [Hs] <;> iassumption
  iexists _; iexact HO

/-- A list of stripe copies started, each with its window, its read share of the buffer and its cell at zero. -/
theorem step_issueSs (c : Dev nD) (k : Fin 4) (q : Fin 16 → PosShare TreeShare) (sb : cc0_scratch2.ty.Contents (Elt F))
    (l : List (Fin 16)) : ∀ (Q : PUnit → sProp 𝕄),
    (bigSepL l fun r => iprop((∃ f, oPt c (k, r) f) ∗ sPt c k (q r) sb ∗ zS c (k, r)))
      ⊢ iprop(((bigSepL l fun r => flS c (k, r) (q r) sb) -∗ Q ⟨⟩) -∗ run c (issueSs k l) Q) := by
  induction l with
  | nil =>
    intro Q
    unfold issueSs run
    rw [wp_pure]
    iintro H Hk
    imodintro
    iapply Hk; iexact H
  | cons r l ih =>
    intro Q
    rw [listSep_cons, listSep_cons]
    unfold issueSs run
    rw [wp_bind]
    iintro ⟨⟨⟨%f, Ho⟩, Hs, Hz⟩, H⟩ Hk
    iapply (step_issueS c (k, r) (q r) sb f) $$ [Ho Hs Hz]
    · isplitl [Ho]; · iexact Ho
      isplitl [Hs] <;> iassumption
    iintro Hf
    iapply (ih Q) $$ H
    iintro H
    iapply Hk
    isplitl [Hf] <;> iassumption

/-- A list of stripe copies waited for, each giving its window, its read share and its cell at zero. -/
theorem step_waitSs (c : Dev nD) (q : Fin 4 × Fin 16 → PosShare TreeShare) (sb : cc0_scratch2.ty.Contents (Elt F))
    (l : List (Fin 4 × Fin 16)) : ∀ (Q : PUnit → sProp 𝕄),
    iprop((bigSepL l fun p => flS c p (q p) sb) ∗ OW c)
      ⊢ iprop((iprop((bigSepL l fun p => iprop(oPt c p (outF sb) ∗ sPt c p.1 (q p) sb ∗ zS c p)) ∗ OW c) -∗ Q ⟨⟩)
          -∗ run c (waitSs l) Q) := by
  induction l with
  | nil =>
    intro Q
    unfold waitSs run
    rw [wp_pure]
    iintro H Hk
    imodintro
    iapply Hk; iexact H
  | cons p l ih =>
    intro Q
    rw [listSep_cons, listSep_cons]
    unfold waitSs run
    rw [wp_bind]
    iintro ⟨⟨Hf, H⟩, HO⟩ Hk
    iapply (step_waitS c p (q p) sb) $$ [Hf HO]
    · isplitl [Hf] <;> iassumption
    iintro ⟨Hp, HO⟩
    iapply (ih Q) $$ [H HO]
    · isplitl [H] <;> iassumption
    iintro ⟨H, HO⟩
    iapply Hk
    isplitr [HO]
    · isplitl [Hp] <;> iassumption
    iexact HO

end Cert.KernelIdeal.Hand

end
-- ==== Proof.KernelIdeal.Rows.lean ====
/-
  The arithmetic steps of the body on the buffers: a block of rows accumulated, and a stripe buffer filled.
-/
module

public import proofs.«01_k».proof.Proof.KernelIdeal.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A program returning a value, run on core `c`. -/
abbrev runV (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## One load, one store -/

/-- A load from elements held. -/
theorem step_load (c : Dev nD) {cs : CoreSpace} {s : Shape} {e : EltTy} (m : Memref sig .tc cs s e) (r : LoadRect s) (hl : m.view.LoadsAt r)
    (S : Finset (Idx (m.view.loc (c : Thread nD τ)))) (q : PosShare TreeShare) (f : Buf (Elt F) (m.view.loc (c : Thread nD τ)))
    (hS : m.view.setOn r.set ⊆ S) (Q : (r.shape.Idx → Elt F e) → sProp 𝕄) :
    (m.view.loc (c : Thread nD τ) ↦[S]{q} f)
      ⊢ iprop(((m.view.loc (c : Thread nD τ) ↦[S]{q} f) -∗ Q (m.view.readAt (Elt F) r f)) -∗ runV c (Prog.lift (.load m r hl)) Q) := by
  iintro H Hk
  iapply (wp_load (defs := defs₀ (F := F)) Variants.none (c : Thread nD τ) none Set.univ (m := m) (r := r) (hl := hl) (k := .ret) (Q := Q) hS) $$ H
  iintro H
  rw [wp_ret]; imodintro
  iapply Hk; iexact H

/-- A load through a memref whose contents are named: the contents under the rectangle. -/
theorem step_load_owns (c : Dev nD) {cs : CoreSpace} {s : Shape} {e : EltTy} (m : Memref sig .tc cs s e) (r : LoadRect s) (hl : m.view.LoadsAt r)
    (q : PosShare TreeShare) (d : s.Idx → Elt F e) (Q : (r.shape.Idx → Elt F e) → sProp 𝕄) :
    (owns (c : Thread nD τ) m q d : sProp 𝕄)
      ⊢ iprop((owns (c : Thread nD τ) m q d -∗ Q (fun x => d (r.idx x))) -∗ runV c (Prog.lift (.load m r hl)) Q) := by
  unfold owns
  iintro ⟨%f, %hf, H⟩ Hk
  subst hf
  iapply (step_load c m r hl m.view.set q f (View.setOn_subset_set _ _) Q) $$ H
  iintro H
  rw [show m.view.readAt (Elt F) r f = fun x => m.view.read (Elt F) f (r.idx x) from rfl]
  iapply Hk
  iexists f
  isplitr; · ipureintro; rfl
  iexact H

/-- A store into elements held whole. -/
theorem step_store (c : Dev nD) {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    (S : Finset (Idx ((m.access r).loc (c : Thread nD τ)))) (f : Buf (Elt F) ((m.access r).loc (c : Thread nD τ)))
    (hS : (m.access r).set ⊆ S) (Q : PUnit → sProp 𝕄) :
    ((m.access r).loc (c : Thread nD τ) ↦[S]{fullShare} f)
      ⊢ iprop((((m.access r).loc (c : Thread nD τ) ↦[S]{fullShare} ((m.access r).write (Elt F) f w Finset.univ)) -∗ Q ⟨⟩)
          -∗ runV c (Prog.lift (.store m r w Finset.univ hx hm)) Q) := by
  iintro H Hk
  iapply (wp_store (defs := defs₀ (F := F)) Variants.none (c : Thread nD τ) none Set.univ (m := m) (r := r) (w := w) (Mk := Finset.univ) (hx := hx) (hm := hm)
    (k := .ret) (Q := Q) hS) $$ H
  iintro H
  rw [wp_ret]; imodintro
  iapply Hk; iexact H

/-- The whole box reads everything. -/
theorem whole_idx {n0 n1 : ℕ} (inb : ∀ a, (![0, 0] : Fin 2 → ℕ) a + (⟨2, ![n0, n1]⟩ : Shape).size a ≤ (⟨2, ![n0, n1]⟩ : Shape).size a)
    {α : Type} (d : (⟨2, ![n0, n1]⟩ : Shape).Idx → α) :
    (fun x => d ((Rect.unit (s := ⟨2, ![n0, n1]⟩) ![0, 0] (⟨2, ![n0, n1]⟩ : Shape).size inb).toLoadRect.idx x)) = d := by
  funext x
  congr 1
  funext a
  apply Fin.ext
  show (![0, 0] : Fin 2 → ℕ) a + 1 * (x a).val = (x a).val
  fin_cases a <;> simp

/-! ## The accumulator -/

theorem aPt_write (f w : cc0_scratch0.ty.Contents (Elt F)) :
    (scA.access (Rect.unit (s := S2x2048) ![0, 0] S2x2048.size inb_S2x2048_S2x2048_0_0)).write (Elt F) f w Finset.univ = w :=
  Memref.write_access_unit_zero_univ (Elt F) cc0_scratch0 (by funext a; fin_cases a <;> rfl) _ f w

theorem aPt_read (f : cc0_scratch0.ty.Contents (Elt F)) :
    scA.view.readAt (Elt F) (Rect.unit (s := S2x2048) ![0, 0] S2x2048.size inb_S2x2048_S2x2048_0_0).toLoadRect f = f :=
  Memref.readAt_unit_zero (Elt F) cc0_scratch0 (by funext a; fin_cases a <;> rfl) _ f

theorem sub_aPt (S : Finset S2x2048.Idx) : S ⊆ scA.view.set := by
  rw [show scA.view.set = Finset.univ from View.set_whole _]; exact Finset.subset_univ _

/-- Point 0 leaves the accumulator at the first block's sums. -/
theorem step_first (c : Dev nD) (m0 : Memref sig .tc .vmem S1024x2048 .f32) (m1 : Memref sig .tc .vmem S8x2048 .f32) (m2 : Memref sig .tc .vmem S1x8 .f32)
    (x0 : S1024x2048.Idx → Elt F .f32) (x1 : S8x2048.Idx → Elt F .f32) (x2 : S1x8.Idx → Elt F .f32) (f : cc0_scratch0.ty.Contents (Elt F))
    (Q : PUnit → sProp 𝕄) :
    iprop(owns (c : Thread nD τ) m0 fullShare x0 ∗ owns (c : Thread nD τ) m1 fullShare x1 ∗ owns (c : Thread nD τ) m2 fullShare x2 ∗ aPt c f)
      ⊢ iprop((iprop(owns (c : Thread nD τ) m0 fullShare x0 ∗ owns (c : Thread nD τ) m1 fullShare x1 ∗ owns (c : Thread nD τ) m2 fullShare x2
            ∗ aPt c (k0_pay2 x0 x1 x2)) -∗ Q ⟨⟩) -∗ run c (firstRows m0 m1 m2) Q) := by
  unfold firstRows run
  iintro ⟨H0, H1, H2, Ha⟩ Hk
  rw [wp_bind]
  iapply (step_load_owns c m0 _ _ fullShare x0) $$ H0
  iintro H0
  rw [whole_idx, wp_bind]
  iapply (step_load_owns c m1 _ _ fullShare x1) $$ H1
  iintro H1
  rw [whole_idx, wp_bind]
  iapply (step_load_owns c m2 _ _ fullShare x2) $$ H2
  iintro H2
  rw [whole_idx, wp_bind]
  iapply (step_load c scA _ _ scA.view.set fullShare f (sub_aPt _)) $$ Ha
  iintro Ha
  rw [wp_bind]
  iapply (step_store c scA (Rect.unit (s := S2x2048) ![0, 0] S2x2048.size inb_S2x2048_S2x2048_0_0) _ _ _ scA.view.set f (sub_aPt _)) $$ Ha
  iintro Ha
  rw [aPt_write, wp_pure]
  imodintro
  iapply Hk
  isplitl [H0]; · iexact H0
  isplitl [H1]; · iexact H1
  isplitl [H2] <;> iassumption

/-- Points 1 to 7 add the block's sums. -/
theorem step_next (c : Dev nD) (m0 : Memref sig .tc .vmem S1024x2048 .f32) (m1 : Memref sig .tc .vmem S8x2048 .f32) (m2 : Memref sig .tc .vmem S1x8 .f32)
    (x0 : S1024x2048.Idx → Elt F .f32) (x1 : S8x2048.Idx → Elt F .f32) (x2 : S1x8.Idx → Elt F .f32) (f : cc0_scratch0.ty.Contents (Elt F))
    (Q : PUnit → sProp 𝕄) :
    iprop(owns (c : Thread nD τ) m0 fullShare x0 ∗ owns (c : Thread nD τ) m1 fullShare x1 ∗ owns (c : Thread nD τ) m2 fullShare x2 ∗ aPt c f)
      ⊢ iprop((iprop(owns (c : Thread nD τ) m0 fullShare x0 ∗ owns (c : Thread nD τ) m1 fullShare x1 ∗ owns (c : Thread nD τ) m2 fullShare x2
            ∗ aPt c (k0_pay3 x0 x1 x2 f)) -∗ Q ⟨⟩) -∗ run c (nextRows m0 m1 m2) Q) := by
  unfold nextRows run
  iintro ⟨H0, H1, H2, Ha⟩ Hk
  rw [wp_bind]
  iapply (step_load_owns c m0 _ _ fullShare x0) $$ H0
  iintro H0
  rw [whole_idx, wp_bind]
  iapply (step_load_owns c m1 _ _ fullShare x1) $$ H1
  iintro H1
  rw [whole_idx, wp_bind]
  iapply (step_load_owns c m2 _ _ fullShare x2) $$ H2
  iintro H2
  rw [whole_idx, wp_bind]
  iapply (step_load c scA _ _ scA.view.set fullShare f (sub_aPt _)) $$ Ha
  iintro Ha
  rw [aPt_read, wp_bind]
  iapply (step_load c scA _ _ scA.view.set fullShare f (sub_aPt _)) $$ Ha
  iintro Ha
  rw [wp_bind]
  iapply (step_store c scA (Rect.unit (s := S2x2048) ![0, 0] S2x2048.size inb_S2x2048_S2x2048_0_0) _ _ _ scA.view.set f (sub_aPt _)) $$ Ha
  iintro Ha
  rw [aPt_write, wp_pure]
  imodintro
  iapply Hk
  isplitl [H0]; · iexact H0
  isplitl [H1]; · iexact H1
  isplitl [H2] <;> iassumption

/-! ## A stripe buffer -/

/-- Point `8 + k`, between the wait and the copies out, leaves stripe buffer `k` at chunk `k` of the output row. -/
theorem step_fill (c : Dev nD) (k : Fin 4) (m3 : Memref sig .tc .vmem S1x2048 .f32) (x3 : S1x2048.Idx → Elt F .f32)
    (ac : cc0_scratch0.ty.Contents (Elt F)) (wb : cc0_scratch1.ty.Contents (Elt F)) (f : cc0_scratch2.ty.Contents (Elt F)) (Q : PUnit → sProp 𝕄) :
    iprop(owns (c : Thread nD τ) m3 fullShare x3 ∗ aPt c ac ∗ wPt c k wb ∗ sPt c k fullShare f)
      ⊢ iprop((iprop(owns (c : Thread nD τ) m3 fullShare x3 ∗ aPt c ac ∗ wPt c k wb ∗ sPt c k fullShare (sbF ac wb x3)) -∗ Q ⟨⟩)
          -∗ run c (fillS k m3) Q) := by
  have e (w : cc0_scratch2.ty.Contents (Elt F))
      (hw : w = (scS.access (sslotR k)).write (Elt F) f (fillF k ac wb x3) Finset.univ) :
      (sPt c k fullShare w : sProp 𝕄) = sPt c k fullShare (sbF ac wb x3) :=
    pointsTo_congr fun i hi => by rw [hw]; exact land_S ac wb x3 k f i hi
  unfold fillS run
  iintro ⟨H3, Ha, Hw, Hs⟩ Hk
  rw [wp_bind]
  iapply (step_load c scA _ _ scA.view.set fullShare ac (sub_aPt _)) $$ Ha
  iintro Ha
  rw [wp_bind]
  iapply (step_load c scA _ _ scA.view.set fullShare ac (sub_aPt _)) $$ Ha
  iintro Ha
  rw [wp_bind]
  iapply (step_load c scW _ _ (wslot k).view.set fullShare wb (by
    rw [← access_wslot k, View.set_slice]; exact Finset.Subset.refl _)) $$ Hw
  iintro Hw
  rw [wp_bind]
  iapply (step_load_owns c m3 _ _ fullShare x3) $$ H3
  iintro H3
  rw [wp_bind]
  iapply (step_load c scS _ _ (sslot k).view.set fullShare f (by
    rw [← access_sslot k, View.set_slice]; exact Finset.Subset.refl _)) $$ Hs
  iintro Hs
  rw [wp_bind]
  iapply (step_store c scS (sslotR k) _ _ _ (sslot k).view.set f (by
    rw [← access_sslot k])) $$ Hs
  iintro Hs
  rw [wp_pure]
  imodintro
  iapply Hk
  isplitl [H3]; · iexact H3
  isplitl [Ha]; · iexact Ha
  isplitl [Hw]; · iexact Hw
  rw [← e _ rfl]
  iexact Hs

end Cert.KernelIdeal.Hand

end
-- ==== Proof.KernelIdeal.Inv.lean ====
/-
  What holds between grid points. Before point `n`: the accumulator holds the sums over the blocks of rows done so far;
  weight buffer `k` is idle, being filled, or filled; stripe buffer `k` is idle, being copied out to its sixteen windows
  of the result, or (at the end) copied out, the windows holding the stripe.
-/
module

public import proofs.«01_k».proof.Proof.KernelIdeal.Rows
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Transfers (shareTok shareDrop)

variable {F : FTy → Type} [FloatOps F]

local notation "𝕄" => MT nD τ sig Unit (Elt F) ℕ (Pipeline.UD sig nD τ) ℕ

variable (m : (ℓ : Loc nD τ sig) → Buf (Elt F) ℓ)

/-! ## The values -/

/-- Grid point number `n`. -/
abbrev pt (n : ℕ) : Fin cfg0.N := Fin.cast N_0.symm (Fin.ofNat 12 n)

/-- The accumulator after the first `n + 1` blocks of rows. -/
def accAt (c : Dev nD) : ℕ → cc0_scratch0.ty.Contents (Elt F)
  | 0 => k0_pay2 (iblk m c 0 (pt 0)) (iblk m c 1 (pt 0)) (iblk m c 2 (pt 0))
  | n + 1 => k0_pay3 (iblk m c 0 (pt (n + 1))) (iblk m c 1 (pt (n + 1))) (iblk m c 2 (pt (n + 1))) (accAt c n)

/-- The second weight matrix, the bias, the filled stripe buffers, the result. -/
abbrev We (c : Dev nD) : main_arg3.ty.Contents (Elt F) := V m c main_arg3
abbrev be (c : Dev nD) : S1x2048.Idx → Elt F .f32 := iblk m c 3 (pt 0)
def sbAt (c : Dev nD) : cc0_scratch2.ty.Contents (Elt F) := sbF (accAt m c 7) (wbF (We m c)) (be m c)
def outAt (c : Dev nD) : main_v3.ty.Contents (Elt F) := outF (sbAt m c)

/-! ## The invariant -/

/-- The point that starts the copy into weight buffer `k`. -/
def startOf (k : Fin 4) : ℕ := if k = 0 then 6 else 7 + k.val

def accP (c : Dev nD) (n : ℕ) : sProp 𝕄 := if n = 0 then iprop(∃ f, aPt c f) else aPt c (accAt m c (min n 8 - 1))

def wIdle (c : Dev nD) (k : Fin 4) : sProp 𝕄 := iprop((∃ f, wPt c k f) ∗ rPt c k (We m c) ∗ zW c k)
def wDone (c : Dev nD) (k : Fin 4) : sProp 𝕄 := iprop(wPt c k (wbF (We m c)) ∗ rPt c k (We m c) ∗ zW c k)
def wP (c : Dev nD) (n : ℕ) (k : Fin 4) : sProp 𝕄 :=
  if n ≤ startOf k then wIdle m c k else if n ≤ 8 + k.val then flW c k (We m c) else wDone m c k

/-- The read share of stripe buffer `k` given to stripe `r`, and what is left. -/
abbrev tok (r : Fin 16) : PosShare TreeShare := shareTok fullShare 16 r
abbrev rest : PosShare TreeShare := shareDrop fullShare 16

def sIdle (c : Dev nD) (k : Fin 4) : sProp 𝕄 :=
  iprop((∃ f, sPt c k fullShare f) ∗ bigSepL allR fun r => iprop((∃ f, oPt c (k, r) f) ∗ zS c (k, r)))
def sFly (c : Dev nD) (k : Fin 4) : sProp 𝕄 :=
  iprop(sPt c k rest (sbAt m c) ∗ bigSepL allR fun r => flS c (k, r) (tok r) (sbAt m c))
def sDone (c : Dev nD) (k : Fin 4) : sProp 𝕄 :=
  iprop(sPt c k fullShare (sbAt m c) ∗ bigSepL allR fun r => iprop(oPt c (k, r) (outAt m c) ∗ zS c (k, r)))
def sP (c : Dev nD) (n : ℕ) (k : Fin 4) : sProp 𝕄 :=
  if n ≤ 8 + k.val then sIdle c k else if n < 12 then sFly m c k else sDone m c k

/-- Before point `n` (after the last one at `n = 12`). -/
def inv (c : Dev nD) (n : ℕ) : sProp 𝕄 :=
  iprop(accP m c n ∗ (bigSep Finset.univ fun k => wP m c n k) ∗ (bigSep Finset.univ fun k => sP m c n k))

/-! ## The proof data -/

/-- On core `c`: every window's array as the region finds it and every staged block left in place; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- A staged window holds its block when the body runs. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The bias' block is the same at every point. -/
theorem be_eq (c : Dev nD) (t : Fin cfg0.N) : (iblk m c 3 t : S1x2048.Idx → Elt F .f32) = be m c := rfl

end Cert.KernelIdeal.Hand

end
-- ==== Proof.KernelIdeal.Body.lean ====
/-
  The body at each grid point takes the invariant before the point to the invariant after it: the first block, a later
  block, the block that also starts the first weight copy, a chunk, and the last chunk with the waits for all 64 copies.
-/
module

public import proofs.«01_k».proof.Proof.KernelIdeal.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Transfers (shareTok shareDrop)

variable {F : FTy → Type} [FloatOps F]

local notation "𝕄" => MT nD τ sig Unit (Elt F) ℕ (Pipeline.UD sig nD τ) ℕ

variable (m : (ℓ : Loc nD τ sig) → Buf (Elt F) ℓ)

/-! ## Lists of assertions -/

/-- Two families over one list side by side. -/
theorem listSep_sep {I : Type} (A B : I → sProp 𝕄) (l : List I) :
    (bigSepL l fun i => iprop(A i ∗ B i)) ⊣⊢ iprop(bigSepL l A ∗ bigSepL l B) := by
  induction l with
  | nil => exact sep_emp.symm
  | cons i l ih =>
    rw [listSep_cons, listSep_cons, listSep_cons]
    constructor
    · iintro ⟨⟨HA, HB⟩, H⟩
      ihave H := ih.1 $$ H
      icases H with ⟨HA', HB'⟩
      isplitl [HA HA']
      · isplitl [HA] <;> iassumption
      · isplitl [HB] <;> iassumption
    · iintro ⟨⟨HA, HA'⟩, ⟨HB, HB'⟩⟩
      isplitl [HA HB]
      · isplitl [HA] <;> iassumption
      · iapply ih.2
        isplitl [HA'] <;> iassumption

/-- A list in two parts. -/
theorem listSep_append {I : Type} (A : I → sProp 𝕄) (l l' : List I) :
    bigSepL (l ++ l') A ⊣⊢ iprop(bigSepL l A ∗ bigSepL l' A) := by
  induction l with
  | nil => exact emp_sep.symm
  | cons i l ih =>
    rw [List.cons_append, listSep_cons, listSep_cons]
    constructor
    · iintro ⟨HA, H⟩
      ihave H := ih.1 $$ H
      icases H with ⟨H1, H2⟩
      isplitl [HA H1]
      · isplitl [HA] <;> iassumption
      · iassumption
    · iintro ⟨⟨HA, H1⟩, H2⟩
      isplitl [HA]; · iexact HA
      iapply ih.2
      isplitl [H1] <;> iassumption

/-- A list of images. -/
theorem listSep_map {I J : Type} (g : I → J) (A : J → sProp 𝕄) (l : List I) :
    bigSepL (l.map g) A = bigSepL l fun i => A (g i) := by
  induction l with
  | nil => rfl
  | cons i l ih => rw [List.map_cons, listSep_cons, listSep_cons, ih]

theorem listSep_mono {I : Type} {A B : I → sProp 𝕄} (h : ∀ i, A i ⊢ B i) (l : List I) : bigSepL l A ⊢ bigSepL l B := by
  induction l with
  | nil => exact .rfl
  | cons i l ih => rw [listSep_cons, listSep_cons]; exact BIClass.sep_mono (h i) ih

/-- All sixteen stripes, as the list. -/
theorem univR_eq (A : Fin 16 → sProp 𝕄) : bigSep Finset.univ A = bigSepL allR A :=
  bigSep_univ_eq_bigSepL allR (by decide) (by decide) A

/-- All 64 pairs, chunk by chunk. -/
theorem allCR_eq (A : Fin 4 × Fin 16 → sProp 𝕄) :
    bigSepL allCR A ⊣⊢ bigSep Finset.univ fun k => bigSepL allR fun r => A (k, r) := by
  have e (B : Fin 4 → sProp 𝕄) : bigSep Finset.univ B = iprop(B 0 ∗ B 1 ∗ B 2 ∗ B 3) :=
    bigSep_univ_eq_bigSepL [0, 1, 2, 3] (by decide) (by decide) B
  rw [e]
  constructor
  · refine (listSep_append A _ _).1.trans (BIClass.sep_mono (.of_eq (listSep_map _ A _)) ?_)
    refine (listSep_append A _ _).1.trans (BIClass.sep_mono (.of_eq (listSep_map _ A _)) ?_)
    exact (listSep_append A _ _).1.trans (BIClass.sep_mono (.of_eq (listSep_map _ A _)) (.of_eq (listSep_map _ A _)))
  · refine .trans (BIClass.sep_mono (.of_eq (listSep_map _ A _).symm) ?_) (listSep_append A _ _).2
    refine .trans (BIClass.sep_mono (.of_eq (listSep_map _ A _).symm) ?_) (listSep_append A _ _).2
    exact .trans (BIClass.sep_mono (.of_eq (listSep_map _ A _).symm) (.of_eq (listSep_map _ A _).symm)) (listSep_append A _ _).2

/-! ## The stripe buffers' two transitions -/

/-- A filled stripe buffer's sixteen copies started. -/
theorem step_out (c : Dev nD) (k : Fin 4) (Q : PUnit → sProp 𝕄) :
    iprop(sPt c k fullShare (sbAt m c) ∗ bigSepL allR fun r => iprop((∃ f, oPt c (k, r) f) ∗ zS c (k, r)))
      ⊢ iprop((sFly m c k -∗ Q ⟨⟩) -∗ run c (issueSs k allR) Q) := by
  unfold sFly
  iintro ⟨Hs, H⟩ Hk
  ihave Hs := (Transfers.pointsTo_toks_split (Ix := Unit) (Name := ℕ) (U := Pipeline.UD sig nD τ) (Lvl := ℕ) fullShare 16) $$ Hs
  icases Hs with ⟨Hr, Ht⟩
  ihave Ht := (BIBase.Entails.of_eq (univR_eq (F := F) fun r => sPt c k (tok r) (sbAt m c))) $$ Ht
  ihave H := (listSep_sep (F := F) (fun r => sPt c k (tok r) (sbAt m c)) (fun r => iprop((∃ f, oPt c (k, r) f) ∗ zS c (k, r))) allR).2 $$ [Ht H]
  · isplitl [Ht] <;> iassumption
  ihave H := (listSep_mono (F := F) (B := fun r => iprop((∃ f, oPt c (k, r) f) ∗ sPt c k (tok r) (sbAt m c) ∗ zS c (k, r))) (by
    intro r
    iintro ⟨Hs, Ho, Hz⟩
    isplitl [Ho]; · iexact Ho
    isplitl [Hs] <;> iassumption) allR) $$ H
  iapply (step_issueSs c k tok (sbAt m c) allR) $$ H
  iintro H
  iapply Hk
  isplitl [Hr] <;> iassumption

/-- All 64 copies waited for: every window holds its stripe, every stripe buffer is whole again. -/
theorem step_collect (c : Dev nD) (Q : PUnit → sProp 𝕄) :
    iprop((bigSep Finset.univ fun k => sFly m c k) ∗ OW c)
      ⊢ iprop((iprop((bigSep Finset.univ fun k => sDone m c k) ∗ OW c) -∗ Q ⟨⟩) -∗ run c (waitSs allCR) Q) := by
  have h1 : (bigSep Finset.univ fun k => sFly m c k)
      ⊢ iprop((bigSep Finset.univ fun k => sPt c k rest (sbAt m c)) ∗ bigSepL allCR fun p => flS c p (tok p.2) (sbAt m c)) := by
    unfold sFly
    rw [bigSep_sep']
    exact BIClass.sep_mono .rfl (allCR_eq (F := F) fun p => flS c p (tok p.2) (sbAt m c)).2
  have h2 : iprop((bigSep Finset.univ fun k => sPt c k rest (sbAt m c))
        ∗ bigSepL allCR fun p => iprop(oPt c p (outF (sbAt m c)) ∗ sPt c p.1 (tok p.2) (sbAt m c) ∗ zS c p))
      ⊢ bigSep Finset.univ fun k => sDone m c k := by
    refine (BIClass.sep_mono .rfl (allCR_eq (F := F) _).1).trans ?_
    rw [← bigSep_sep']
    refine bigSep_mono fun k _ => ?_
    unfold sDone
    show BIBase.Entails (PROP := sProp 𝕄) _ _
    iintro ⟨Hr, H⟩
    ihave H := (listSep_mono (F := F) (B := fun r => iprop(sPt c k (tok r) (sbAt m c) ∗ (oPt c (k, r) (outAt m c) ∗ zS c (k, r)))) (by
      intro r
      iintro ⟨Ho, Hs, Hz⟩
      isplitl [Hs]; · iexact Hs
      isplitl [Ho]; · iexact Ho
      iexact Hz) allR) $$ H
    ihave H := (listSep_sep (F := F) (fun r => sPt c k (tok r) (sbAt m c)) (fun r => iprop(oPt c (k, r) (outAt m c) ∗ zS c (k, r))) allR).1 $$ H
    icases H with ⟨Ht, H⟩
    isplitr [H]
    · iapply (Transfers.pointsTo_toks_join (Ix := Unit) (Name := ℕ) (U := Pipeline.UD sig nD τ) (Lvl := ℕ) fullShare 16)
      isplitl [Hr]; · iexact Hr
      iapply (BIBase.Entails.of_eq (univR_eq (F := F) fun r => sPt c k (tok r) (sbAt m c)).symm) $$ Ht
    · iexact H
  iintro ⟨H, HO⟩ Hk
  ihave H := h1 $$ H
  icases H with ⟨Hr, Hf⟩
  iapply (step_waitSs c (fun p => tok p.2) (sbAt m c) allCR) $$ [Hf HO]
  · isplitl [Hf] <;> iassumption
  iintro ⟨H, HO⟩
  iapply Hk
  isplitr [HO]
  · iapply h2
    isplitl [Hr] <;> iassumption
  · iexact HO

/-! ## What a point leaves alone -/

/-- One member of a family taken out. -/
theorem famSep_erase {I : Type} [DecidableEq I] {s : Finset I} {i : I} (h : i ∈ s) {Φ : I → sProp 𝕄} :
    bigSep s Φ = iprop(Φ i ∗ bigSep (s.erase i) Φ) := bigSep_erase h

/-- A family changed at one index. -/
theorem family_step {n : ℕ} (A B : Fin n → sProp 𝕄) (k : Fin n) (h : ∀ j, j ≠ k → A j = B j) :
    (bigSep Finset.univ A = iprop(A k ∗ bigSep (Finset.univ.erase k) A))
      ∧ (bigSep Finset.univ B = iprop(B k ∗ bigSep (Finset.univ.erase k) A)) := by
  refine ⟨famSep_erase (Finset.mem_univ k), ?_⟩
  rw [famSep_erase (Finset.mem_univ k)]
  congr 1
  exact bigSep_congr fun j hj => (h j (Finset.ne_of_mem_erase hj)).symm

/-- A family changed at two. -/
theorem family_step2 {n : ℕ} (A B : Fin n → sProp 𝕄) (k l : Fin n) (hkl : l ≠ k) (h : ∀ j, j ≠ k → j ≠ l → A j = B j) :
    (bigSep Finset.univ A = iprop(A k ∗ A l ∗ bigSep ((Finset.univ.erase k).erase l) A))
      ∧ (bigSep Finset.univ B = iprop(B k ∗ B l ∗ bigSep ((Finset.univ.erase k).erase l) A)) := by
  have hl : l ∈ Finset.univ.erase k := Finset.mem_erase.mpr ⟨hkl, Finset.mem_univ l⟩
  refine ⟨by rw [famSep_erase (Finset.mem_univ k), famSep_erase hl], ?_⟩
  rw [famSep_erase (Finset.mem_univ k), famSep_erase hl]
  congr 2
  exact bigSep_congr fun j hj => (h j (Finset.ne_of_mem_erase (Finset.mem_of_mem_erase hj)) (Finset.ne_of_mem_erase hj)).symm

theorem wP_same (c : Dev nD) (n : ℕ) (h : n ≤ 7) (h6 : n ≠ 6) :
    (bigSep Finset.univ fun k => wP m c n k) = bigSep Finset.univ fun k => wP m c (n + 1) k := by
  refine bigSep_congr fun k _ => ?_
  obtain ⟨i, rfl⟩ : ∃ i : Fin 8, n = i.val := ⟨⟨n, by omega⟩, rfl⟩
  fin_cases i <;> fin_cases k <;> first | rfl | exact absurd rfl h6
theorem sP_same (c : Dev nD) (n : ℕ) (h : n ≤ 7) :
    (bigSep Finset.univ fun k => sP m c n k) = bigSep Finset.univ fun k => sP m c (n + 1) k := by
  refine bigSep_congr fun k _ => ?_
  obtain ⟨i, rfl⟩ : ∃ i : Fin 8, n = i.val := ⟨⟨n, by omega⟩, rfl⟩
  fin_cases i <;> fin_cases k <;> rfl

/-! ## The points -/

/-- The staged blocks at point `t`. -/
def wins (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t))

/-- What a point is run from and leaves, the invariant's number apart. -/
abbrev stateAt (c : Dev nD) (t : Fin cfg0.N) (n : ℕ) : sProp 𝕄 := iprop(inv m c n ∗ OW c ∗ wins m c t)

theorem sound_first (c : Dev nD) : stateAt m c t0_0 0 ⊢ run c (bodyAt0 t0_0) (fun _ => stateAt m c t0_0 1) := by
  rw [body_first]
  unfold stateAt inv wins
  rw [← wP_same m c 0 (by omega) (by omega), ← sP_same m c 0 (by omega)]
  rw [show accP m c 0 = iprop(∃ f, aPt c f) from rfl,
    show accP m c 1 = aPt c (k0_pay2 (iblk m c 0 t0_0) (iblk m c 1 t0_0) (iblk m c 2 t0_0)) from rfl]
  iintro ⟨⟨⟨%f, Ha⟩, Hw, Hs⟩, HO, H0, H1, H2, H3⟩
  iapply (step_first c (st0_0 t0_0) (st0_1 t0_0) (st0_2 t0_0) (iblk m c 0 t0_0) (iblk m c 1 t0_0) (iblk m c 2 t0_0) f) $$ [Ha H0 H1 H2]
  · isplitl [H0]; · iexact H0
    isplitl [H1]; · iexact H1
    isplitl [H2] <;> iassumption
  iintro ⟨H0, H1, H2, Ha⟩
  isplitl [Ha Hw Hs]
  · isplitl [Ha]; · iexact Ha
    isplitl [Hw] <;> iassumption
  isplitl [HO]; · iexact HO
  isplitl [H0]; · iexact H0
  isplitl [H1]; · iexact H1
  isplitl [H2] <;> iassumption

/-- The accumulator over a later block. -/
theorem accP_next (c : Dev nD) (n : Fin 12) (h1 : 1 ≤ n.val) (h7 : n.val ≤ 7) :
    accP m c n.val = aPt c (accAt m c (n.val - 1))
      ∧ accP m c (n.val + 1) = aPt c (k0_pay3 (iblk m c 0 (Fin.cast N_0.symm n)) (iblk m c 1 (Fin.cast N_0.symm n))
          (iblk m c 2 (Fin.cast N_0.symm n)) (accAt m c (n.val - 1))) := by
  fin_cases n <;> first | (exfalso; revert h1 h7; decide) | exact ⟨rfl, rfl⟩

theorem sound_next (c : Dev nD) (n : Fin 12) (h1 : 1 ≤ n.val) (h7 : n.val ≤ 7) (h6 : n.val ≠ 6) :
    stateAt m c (Fin.cast N_0.symm n) n.val
      ⊢ run c (bodyAt0 (Fin.cast N_0.symm n)) (fun _ => stateAt m c (Fin.cast N_0.symm n) (n.val + 1)) := by
  rw [body_next n h1 h7 h6]
  unfold stateAt inv wins
  rw [← wP_same m c n.val h7 h6, ← sP_same m c n.val h7, (accP_next m c n h1 h7).1, (accP_next m c n h1 h7).2]
  generalize Fin.cast N_0.symm n = t
  iintro ⟨⟨Ha, Hw, Hs⟩, HO, H0, H1, H2, H3⟩
  iapply (step_next c (st0_0 t) (st0_1 t) (st0_2 t) (iblk m c 0 t) (iblk m c 1 t) (iblk m c 2 t) (accAt m c (n.val - 1))) $$ [Ha H0 H1 H2]
  · isplitl [H0]; · iexact H0
    isplitl [H1]; · iexact H1
    isplitl [H2] <;> iassumption
  iintro ⟨H0, H1, H2, Ha⟩
  isplitl [Ha Hw Hs]
  · isplitl [Ha]; · iexact Ha
    isplitl [Hw] <;> iassumption
  isplitl [HO]; · iexact HO
  isplitl [H0]; · iexact H0
  isplitl [H1]; · iexact H1
  isplitl [H2] <;> iassumption

theorem sound_six (c : Dev nD) : stateAt m c t0_6 6 ⊢ run c (bodyAt0 t0_6) (fun _ => stateAt m c t0_6 7) := by
  have hw := family_step (fun k => wP m c 6 k) (fun k => wP m c 7 k) 0 (by
    intro j hj; fin_cases j <;> first | rfl | exact absurd rfl hj)
  rw [body_six]
  unfold stateAt inv wins run
  rw [hw.1, hw.2, ← sP_same m c 6 (by omega), wp_bind]
  rw [show accP m c 6 = aPt c (accAt m c 5) from rfl,
    show accP m c 7 = aPt c (k0_pay3 (iblk m c 0 t0_6) (iblk m c 1 t0_6) (iblk m c 2 t0_6) (accAt m c 5)) from rfl,
    show wP m c 6 0 = wIdle m c 0 from rfl, show wP m c 7 0 = flW c 0 (We m c) from rfl]
  unfold wIdle
  iintro ⟨⟨Ha, ⟨⟨⟨%fw, Hw0⟩, Hr0, Hz0⟩, Hw⟩, Hs⟩, HO, H0, H1, H2, H3⟩
  iapply (step_next c (st0_0 t0_6) (st0_1 t0_6) (st0_2 t0_6) (iblk m c 0 t0_6) (iblk m c 1 t0_6) (iblk m c 2 t0_6) (accAt m c 5)) $$ [Ha H0 H1 H2]
  · isplitl [H0]; · iexact H0
    isplitl [H1]; · iexact H1
    isplitl [H2] <;> iassumption
  iintro ⟨H0, H1, H2, Ha⟩
  iapply (step_issueW c 0 (We m c) fw) $$ [Hw0 Hr0 Hz0]
  · isplitl [Hw0]; · iexact Hw0
    isplitl [Hr0] <;> iassumption
  iintro Hf
  isplitl [Ha Hf Hw Hs]
  · isplitl [Ha]; · iexact Ha
    isplitl [Hf Hw]
    · isplitl [Hf] <;> iassumption
    iexact Hs
  isplitl [HO]; · iexact HO
  isplitl [H0]; · iexact H0
  isplitl [H1]; · iexact H1
  isplitl [H2] <;> iassumption

/-- The bias is the same block at every point. -/
theorem sbAt_eq (c : Dev nD) (t : Fin cfg0.N) : sbF (accAt m c 7) (wbF (We m c)) (iblk m c 3 t) = sbAt m c := rfl

theorem accP_chunk (c : Dev nD) (k : Fin 4) :
    accP m c (8 + k.val) = aPt c (accAt m c 7) ∧ accP m c (8 + k.val + 1) = aPt c (accAt m c 7) := by
  fin_cases k <;> exact ⟨rfl, rfl⟩

/-- The weight buffers at a chunk point before the last. -/
theorem wP_chunk (c : Dev nD) (k : Fin 4) (h : k.val < 3) :
    (wP m c (8 + k.val) k = flW c k (We m c) ∧ wP m c (8 + k.val + 1) k = wDone m c k)
      ∧ (wP m c (8 + k.val) (k + 1) = wIdle m c (k + 1) ∧ wP m c (8 + k.val + 1) (k + 1) = flW c (k + 1) (We m c))
      ∧ (k + 1 ≠ k) ∧ ∀ j, j ≠ k → j ≠ k + 1 → wP m c (8 + k.val) j = wP m c (8 + k.val + 1) j := by
  fin_cases k <;> first
    | (exfalso; revert h; decide)
    | refine ⟨⟨rfl, rfl⟩, ⟨rfl, rfl⟩, by decide, fun j h1 h2 => ?_⟩
      fin_cases j <;> first | rfl | exact absurd rfl h1 | exact absurd rfl h2

theorem sP_chunk (c : Dev nD) (k : Fin 4) (h : k.val < 3) :
    sP m c (8 + k.val) k = sIdle c k ∧ sP m c (8 + k.val + 1) k = sFly m c k
      ∧ ∀ j, j ≠ k → sP m c (8 + k.val) j = sP m c (8 + k.val + 1) j := by
  fin_cases k <;> first
    | (exfalso; revert h; decide)
    | refine ⟨rfl, rfl, fun j h1 => ?_⟩
      fin_cases j <;> first | rfl | exact absurd rfl h1

theorem sound_chunk (c : Dev nD) (k : Fin 4) (h : k.val < 3) :
    stateAt m c (tC k) (8 + k.val) ⊢ run c (bodyAt0 (tC k)) (fun _ => stateAt m c (tC k) (8 + k.val + 1)) := by
  obtain ⟨⟨w1, w2⟩, ⟨w3, w4⟩, hne, hwj⟩ := wP_chunk m c k h
  obtain ⟨s1, s2, hsj⟩ := sP_chunk m c k h
  have hw := family_step2 (fun j => wP m c (8 + k.val) j) (fun j => wP m c (8 + k.val + 1) j) k (k + 1) hne hwj
  have hs := family_step (fun j => sP m c (8 + k.val) j) (fun j => sP m c (8 + k.val + 1) j) k hsj
  rw [body_chunk k h]
  unfold stateAt inv wins run
  rw [hw.1, hw.2, hs.1, hs.2, (accP_chunk m c k).1, (accP_chunk m c k).2, w1, w2, w3, w4, s1, s2, wp_bind]
  unfold wIdle wDone sIdle
  iintro ⟨⟨Ha, ⟨Hf, ⟨⟨%fw, Hw0⟩, Hr0, Hz0⟩, Hw⟩, ⟨⟨⟨%fs, Hs0⟩, Ho⟩, Hs⟩⟩, HO, H0, H1, H2, H3⟩
  iapply (step_issueW c (k + 1) (We m c) fw) $$ [Hw0 Hr0 Hz0]
  · isplitl [Hw0]; · iexact Hw0
    isplitl [Hr0] <;> iassumption
  iintro Hf'
  rw [wp_bind]
  iapply (step_waitW c k (We m c)) $$ [Hf HO]
  · isplitl [Hf] <;> iassumption
  iintro ⟨Hw0, Hr0, Hz0, HO⟩
  rw [wp_bind]
  iapply (step_fill c k (st0_3 (tC k)) (iblk m c 3 (tC k)) (accAt m c 7) (wbF (We m c)) fs) $$ [H3 Ha Hw0 Hs0]
  · isplitl [H3]; · iexact H3
    isplitl [Ha]; · iexact Ha
    isplitl [Hw0] <;> iassumption
  iintro ⟨H3, Ha, Hw0, Hs0⟩
  rw [sbAt_eq]
  iapply (step_out m c k) $$ [Hs0 Ho]
  · isplitl [Hs0] <;> iassumption
  iintro Hfly
  isplitl [Ha Hw0 Hr0 Hz0 Hf' Hw Hfly Hs]
  · isplitl [Ha]; · iexact Ha
    isplitl [Hw0 Hr0 Hz0 Hf' Hw]
    · isplitl [Hw0 Hr0 Hz0]
      · isplitl [Hw0]; · iexact Hw0
        isplitl [Hr0] <;> iassumption
      isplitl [Hf'] <;> iassumption
    isplitl [Hfly] <;> iassumption
  isplitl [HO]; · iexact HO
  isplitl [H0]; · iexact H0
  isplitl [H1]; · iexact H1
  isplitl [H2] <;> iassumption

/-- Before the last point the stripe buffers but the last are being copied out. -/
theorem sP_eleven (c : Dev nD) :
    sP m c 11 3 = sIdle c 3 ∧ (∀ j, j ≠ 3 → sP m c 11 j = sFly m c j) ∧ ∀ j, sP m c 12 j = sDone m c j := by
  refine ⟨rfl, fun j h => ?_, fun j => ?_⟩
  · fin_cases j <;> first | rfl | exact absurd rfl h
  · fin_cases j <;> rfl

theorem sound_last (c : Dev nD) : stateAt m c (tC 3) 11 ⊢ run c (bodyAt0 (tC 3)) (fun _ => stateAt m c (tC 3) (11 + 1)) := by
  rw [show (11 + 1 : ℕ) = 12 from rfl]
  obtain ⟨s1, s2, s3⟩ := sP_eleven m c
  have hw := family_step (fun k => wP m c 11 k) (fun k => wP m c 12 k) 3 (by
    intro j hj; fin_cases j <;> first | rfl | exact absurd rfl hj)
  have hs := family_step (fun j => sP m c 11 j) (fun j => sFly m c j) 3 s2
  rw [body_last]
  unfold stateAt inv wins run
  rw [hw.1, hw.2, hs.1, s1, show (fun k => sP m c 12 k) = fun k => sDone m c k from funext s3, wp_bind]
  rw [show accP m c 11 = aPt c (accAt m c 7) from rfl, show accP m c 12 = aPt c (accAt m c 7) from rfl,
    show wP m c 11 3 = flW c 3 (We m c) from rfl, show wP m c 12 3 = wDone m c 3 from rfl]
  unfold wDone sIdle
  iintro ⟨⟨Ha, ⟨Hf, Hw⟩, ⟨⟨⟨%fs, Hs0⟩, Ho⟩, Hs⟩⟩, HO, H0, H1, H2, H3⟩
  iapply (step_waitW c 3 (We m c)) $$ [Hf HO]
  · isplitl [Hf] <;> iassumption
  iintro ⟨Hw0, Hr0, Hz0, HO⟩
  rw [wp_bind]
  iapply (step_fill c 3 (st0_3 (tC 3)) (iblk m c 3 (tC 3)) (accAt m c 7) (wbF (We m c)) fs) $$ [H3 Ha Hw0 Hs0]
  · isplitl [H3]; · iexact H3
    isplitl [Ha]; · iexact Ha
    isplitl [Hw0] <;> iassumption
  iintro ⟨H3, Ha, Hw0, Hs0⟩
  rw [sbAt_eq]
  rw [wp_bind]
  iapply (step_out m c 3) $$ [Hs0 Ho]
  · isplitl [Hs0] <;> iassumption
  iintro Hfly
  ihave Hall := (BIBase.Entails.of_eq hs.2.symm) $$ [Hfly Hs]
  · isplitl [Hfly] <;> iassumption
  iapply (step_collect m c) $$ [Hall HO]
  · isplitl [Hall] <;> iassumption
  iintro ⟨Hall, HO⟩
  isplitl [Ha Hw0 Hr0 Hz0 Hw Hall]
  · isplitl [Ha]; · iexact Ha
    isplitl [Hw0 Hr0 Hz0 Hw]
    · isplitl [Hw0 Hr0 Hz0]
      · isplitl [Hw0]; · iexact Hw0
        isplitl [Hr0] <;> iassumption
      iassumption
    iexact Hall
  isplitl [HO]; · iexact HO
  isplitl [H0]; · iexact H0
  isplitl [H1]; · iexact H1
  isplitl [H2] <;> iassumption

/-- The body at any point. -/
theorem sound (c : Dev nD) (n : Fin 12) :
    stateAt m c (Fin.cast N_0.symm n) n.val
      ⊢ run c (bodyAt0 (Fin.cast N_0.symm n)) (fun _ => stateAt m c (Fin.cast N_0.symm n) (n.val + 1)) := by
  by_cases h0 : n.val = 0
  · obtain rfl : n = 0 := Fin.ext h0
    exact sound_first m c
  by_cases h6 : n.val = 6
  · obtain rfl : n = 6 := Fin.ext h6
    exact sound_six m c
  by_cases h7 : n.val ≤ 7
  · exact sound_next m c n (by omega) h7 h6
  by_cases h11 : n.val = 11
  · rw [show Fin.cast N_0.symm n = tC 3 from Fin.ext h11, h11]
    exact sound_last m c
  have hn := n.isLt
  have hk : (⟨n.val - 8, by omega⟩ : Fin 4).val < 3 := by show n.val - 8 < 3; omega
  have hv : n.val = 8 + (⟨n.val - 8, by omega⟩ : Fin 4).val := by show n.val = 8 + (n.val - 8); omega
  generalize (⟨n.val - 8, by omega⟩ : Fin 4) = k at hk hv
  rw [show Fin.cast N_0.symm n = tC k from Fin.ext hv, hv]
  exact sound_chunk m c k hk

/-! ## The library's obligation -/

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ ((∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))))
def bodyPost (c : Dev nD) (t : Fin cfg0.N) : sProp 𝕄 :=
  iprop((dats m 0 c).Φ t.succ ∗ (dats m 0 c).owesAt () t.succ
    ∗ (owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)))

theorem sound_body (c : Dev nD) (t : Fin cfg0.N) : bodyPre m c t ⊢ run c (bodyAt0 t) (fun _ => bodyPost m c t) := by
  have h := sound m c (Fin.cast N_0 t)
  rw [show Fin.cast N_0.symm (Fin.cast N_0 t) = t from rfl, show (Fin.cast N_0 t).val = t.val from rfl] at h
  refine .trans ?_ (h.trans (wp_mono _ _ _ fun _ => ?_))
  · unfold bodyPre stateAt wins Dat.owesAt Pipeline.owesWithin
    simp only [before_0, before_1, before_2, before_3]
    rw [show (dats m 0 c).Φ t.castSucc = inv m c t.val from rfl, show (dats m 0 c).owed t.castSucc = 0 from rfl]
    iintro ⟨HI, ⟨%W, -, HO⟩, ⟨%d0, H0⟩, ⟨%d1, H1⟩, ⟨%d2, H2⟩, ⟨%d3, H3⟩⟩
    isplitl [HI]; · iexact HI
    isplitl [HO]; · iexists W; iexact HO
    isplitl [H0]; · iexact H0
    isplitl [H1]; · iexact H1
    isplitl [H2] <;> iassumption
  · unfold bodyPost stateAt wins Dat.owesAt Pipeline.owesWithin
    rw [after_0, after_1, after_2, after_3]
    rw [show (dats m 0 c).Φ t.succ = inv m c (t.val + 1) from rfl, show (dats m 0 c).owed t.succ = 0 from rfl]
    iintro ⟨HI, ⟨%W, HO⟩, H⟩
    isplitl [HI]; · iexact HI
    isplitl [HO]
    · iexists W; isplitr; · ipureintro; exact fun _ _ => Or.inl trivial
      iexact HO
    iexact H

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.KernelIdeal.Ends.lean ====
/-
  The two ends of the kernel: the whole buffers and the semaphores at zero taken apart into the invariant before the
  first point, and the invariant after the last point put together into whole buffers, the result at its contents.
-/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The kernel's semaphores -/

/-- The kernel's own semaphores: one per weight buffer, one per window of the result. -/
def osem : Fin 4 ⊕ Fin 4 × Fin 16 → SemLoc sig
  | .inl k => SemLoc.dma (semW k)
  | .inr p => SemLoc.dma (semS p.1 p.2)

theorem osem_facts : Pipeline.OwnSemFacts spec0 osem := by decide

/-- All of them at zero. -/
abbrev sems0 (c : Dev nD) : sProp 𝕄 :=
  iprop((bigSep Finset.univ fun k => zW c k) ∗ bigSep Finset.univ fun p : Fin 4 × Fin 16 => zS c p)

theorem ownSems0_eq (c : Dev nD) :
    (Pipeline.ownSems0 (Ix := Unit) (Name := ℕ) (U := Pipeline.UD sig nD τ) (Lvl := ℕ) (Val := Elt F) (τ := τ) osem c : sProp 𝕄)
      = sems0 c := by
  unfold Pipeline.ownSems0
  exact bigSep_univ_sum _

/-! ## Whole buffers and their pieces -/

theorem aPt_whole (c : Dev nD) (f : cc0_scratch0.ty.Contents (Elt F)) :
    (aPt c f : sProp 𝕄) = (((c : Thread nD τ).loc cc0_scratch0) ↦{fullShare} f) := by
  dsimp only [aPt]
  rw [show scA.view.set = Finset.univ from View.set_whole _]

theorem wPt_all (c : Dev nD) (f : cc0_scratch1.ty.Contents (Elt F)) :
    ((((c : Thread nD τ).loc cc0_scratch1) ↦{fullShare} f) : sProp 𝕄) = bigSep Finset.univ fun k => wPt c k f :=
  pieces_eq (ℓ := (c : Thread nD τ).loc cc0_scratch1) (fun k => (wslot k).view.set) partW mem_wslot fullShare f
theorem rPt_all (c : Dev nD) (f : main_arg3.ty.Contents (Elt F)) :
    ((((c : Thread nD τ).loc main_arg3) ↦{fullShare} f) : sProp 𝕄) = bigSep Finset.univ fun k => rPt c k f :=
  pieces_eq (ℓ := (c : Thread nD τ).loc main_arg3) (fun k => (wrows k).view.set) partR mem_wrows fullShare f
theorem sPt_all (c : Dev nD) (f : cc0_scratch2.ty.Contents (Elt F)) :
    ((((c : Thread nD τ).loc cc0_scratch2) ↦{fullShare} f) : sProp 𝕄) = bigSep Finset.univ fun k => sPt c k fullShare f :=
  pieces_eq (ℓ := (c : Thread nD τ).loc cc0_scratch2) (fun k => (sslot k).view.set) partS mem_sslot fullShare f
theorem oPt_all (c : Dev nD) (f : main_v3.ty.Contents (Elt F)) :
    ((((c : Thread nD τ).loc main_v3) ↦{fullShare} f) : sProp 𝕄) = bigSep Finset.univ fun p : Fin 4 × Fin 16 => oPt c p f :=
  pieces_eq (ℓ := (c : Thread nD τ).loc main_v3) (fun p : Fin 4 × Fin 16 => (owin p.1 p.2).view.set) partO mem_owin fullShare f

/-- A family over the 64 pairs, chunk by chunk. -/
theorem pairs_eq (A : Fin 4 × Fin 16 → sProp 𝕄) :
    bigSep Finset.univ A = bigSep Finset.univ fun k => bigSepL allR fun r => A (k, r) := by
  rw [show bigSep Finset.univ A = bigSep Finset.univ fun k => bigSep Finset.univ fun r => A (k, r) from bigSep_univ_prod A]
  exact bigSep_congr fun k _ => univR_eq _

/-! ## The ends -/

/-- Whole buffers and idle semaphores are the invariant before the first point. -/
theorem inv_start (c : Dev nD) (f3 : main_v3.ty.Contents (Elt F)) :
    iprop((((c : Thread nD τ).loc main_arg3) ↦{fullShare} We m c) ∗ (((c : Thread nD τ).loc main_v3) ↦{fullShare} f3)
        ∗ sems0 c
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ⊢ inv m c 0 := by
  have hw : (bigSep Finset.univ fun k => wP m c 0 k) = bigSep Finset.univ fun k => wIdle m c k :=
    bigSep_congr fun k _ => if_pos (Nat.zero_le _)
  have hs : (bigSep Finset.univ fun k => sP m c 0 k) = bigSep Finset.univ fun k => sIdle (F := F) c k :=
    bigSep_congr fun k _ => if_pos (Nat.zero_le _)
  have mw (f : cc0_scratch1.ty.Contents (Elt F)) :
      iprop((bigSep Finset.univ fun k => wPt c k f) ∗ (bigSep Finset.univ fun k => rPt c k (We m c)) ∗ bigSep Finset.univ fun k => zW c k)
        ⊢ bigSep Finset.univ fun k => wIdle m c k := by
    rw [← bigSep_sep', ← bigSep_sep']
    refine bigSep_mono fun k _ => ?_
    unfold wIdle
    show BIBase.Entails (PROP := sProp 𝕄) _ _
    iintro ⟨Hw, Hr, Hz⟩
    isplitl [Hw]; · iexists f; iexact Hw
    isplitl [Hr] <;> iassumption
  have ms (f : cc0_scratch2.ty.Contents (Elt F)) :
      iprop((bigSep Finset.univ fun k => sPt c k fullShare f) ∗ (bigSep Finset.univ fun p : Fin 4 × Fin 16 => oPt c p f3)
          ∗ bigSep Finset.univ fun p : Fin 4 × Fin 16 => zS c p)
        ⊢ bigSep Finset.univ fun k => sIdle (F := F) c k := by
    rw [← bigSep_sep', pairs_eq, ← bigSep_sep']
    refine bigSep_mono fun k _ => ?_
    unfold sIdle
    show BIBase.Entails (PROP := sProp 𝕄) _ _
    iintro ⟨Hs, Ho⟩
    isplitl [Hs]; · iexists f; iexact Hs
    iapply (listSep_mono (F := F) (A := fun r => iprop(oPt c (k, r) f3 ∗ zS c (k, r))) (by
      intro r
      iintro ⟨Ho, Hz⟩
      isplitl [Ho]; · iexists f3; iexact Ho
      iexact Hz) allR) $$ Ho
  unfold inv
  rw [hw, hs, show accP m c 0 = iprop(∃ f, aPt c f) from rfl]
  iintro ⟨H3, Hv, ⟨Hzw, Hzs⟩, ⟨%f0, Ha⟩, ⟨%f1, Hw⟩, ⟨%f2, Hs⟩⟩
  ihave Ha := (BIBase.Entails.of_eq (aPt_whole c f0).symm) $$ Ha
  ihave Hw := (BIBase.Entails.of_eq (wPt_all c f1)) $$ Hw
  ihave Hs := (BIBase.Entails.of_eq (sPt_all c f2)) $$ Hs
  ihave H3 := (BIBase.Entails.of_eq (rPt_all c (We m c))) $$ H3
  ihave Hv := (BIBase.Entails.of_eq (oPt_all c f3)) $$ Hv
  isplitl [Ha]; · iexists f0; iexact Ha
  isplitl [Hw H3 Hzw]
  · iapply (mw f1)
    isplitl [Hw]; · iexact Hw
    isplitl [H3] <;> iassumption
  · iapply (ms f2)
    isplitl [Hs]; · iexact Hs
    isplitl [Hv] <;> iassumption

/-- The invariant after the last point is whole buffers and idle semaphores, the result at its contents. -/
theorem inv_end (c : Dev nD) :
    inv m c 12 ⊢ iprop(((((c : Thread nD τ).loc main_arg3) ↦{fullShare} We m c) ∗ (((c : Thread nD τ).loc main_v3) ↦{fullShare} outAt m c))
        ∗ sems0 c
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)) := by
  have hw : (bigSep Finset.univ fun k => wP m c 12 k) = bigSep Finset.univ fun k => wDone m c k :=
    bigSep_congr fun k _ => by fin_cases k <;> rfl
  have hs : (bigSep Finset.univ fun k => sP m c 12 k) = bigSep Finset.univ fun k => sDone m c k :=
    bigSep_congr fun k _ => (sP_eleven m c).2.2 k
  unfold inv
  rw [hw, hs, show accP m c 12 = aPt c (accAt m c 7) from rfl]
  unfold wDone sDone
  rw [bigSep_sep', bigSep_sep', bigSep_sep', ← pairs_eq (F := F) (fun p => iprop(oPt c p (outAt m c) ∗ zS c p)), bigSep_sep',
    ← wPt_all, ← rPt_all, ← sPt_all, ← oPt_all, aPt_whole]
  iintro ⟨Ha, ⟨Hw, H3, Hzw⟩, ⟨Hs, Hv, Hzs⟩⟩
  isplitl [H3 Hv]
  · isplitl [H3] <;> iassumption
  isplitl [Hzw Hzs]
  · isplitl [Hzw] <;> iassumption
  isplitl [Ha]; · iexists _; iexact Ha
  isplitl [Hw]; · iexists _; iexact Hw
  iexists _; iexact Hs

end Cert.KernelIdeal.Hand

end
-- ==== Proof.KernelIdeal.Run.lean ====
/-
  The whole program's run: host reshapes, the kernel, a host reshape. From any memory with the semaphores at zero it
  terminates, every buffer in device memory ends at the contents the host operations give over the kernel's result, and
  every semaphore ends at zero.
-/
module

public import proofs.«01_k».proof.Proof.KernelIdeal.Ends
public import Idealize.ShloMosaic.Lib.Pipeline.Regions
public import Idealize.ShloMosaic.Lib.Pipeline.RegionsLoop
public import Idealize.ShloMosaic.Lib.Pipeline.FrameTail

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs sub_ucRefs unscopedBufs_held)

variable {F : FTy → Type} [FloatOps F]

local notation "𝕌" => Pipeline.UD sig nD τ
local notation "𝕄" => MT nD τ sig Unit (Elt F) ℕ (Pipeline.UD sig nD τ) ℕ

variable (m : (ℓ : Loc nD τ sig) → Buf (Elt F) ℓ) (ρ : Dev nD → PrngReg)

/-! ## The buffers before, between and after -/

/-- Core `c`'s buffers at launch. -/
abbrev VL (c : Dev nD) : Valuation τ sig (Elt F) := fun b => m (c, b)
/-- When the kernel ends: the result's buffer at its contents, the others as the kernel found them. -/
def VE (c : Dev nD) : Valuation τ sig (Elt F) := Function.update (V0 m c) (Proc.devRef .tc main_v3) (outAt m c)

theorem VE_v3 (c : Dev nD) : VE m c (Proc.devRef .tc main_v3) = outAt m c := Function.update_self _ _ _
theorem VE_ne (c : Dev nD) (b : Ref sig .tc) (h : b ≠ main_v3) : VE m c (Proc.devRef .tc b) = V m c b :=
  Function.update_of_ne (StableHlo.devRef_ne_of_ne h) _ _

theorem V0_eq (c : Dev nD) : V0 m c = StableHlo.after hostOps0 (VL m c) := rfl

/-! ## The launch -/

abbrev EP : Emb (UR sig nD τ) 𝕄 := embL
/-- The launch element: the pipeline's part, and no transfer of the kernel's yet. -/
def u₀ : 𝕌 := (initOf (Pipeline.cells cfgs cellOf_inj) (Pipeline.launchToks cfgs cellOf_inj), 1)
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- The reshapes before the kernel. -/
def seg0 : Pipeline.HostSeg (Name := ℕ) (U := 𝕌) (pcfgs (F := F)) defs₀ Variants.none L lv :=
  Pipeline.HostSeg.ofOps _ _ _ _ _ (ucRefs τ sig) hostOps0 (fun op h => sub_ucRefs op ((List.forall_iff_forall_mem.mp hostOps0_sub) op h))
    (fun op h => (List.forall_iff_forall_mem.mp hostOps0_fresh) op h) (VL m) OW
/-- The reshape after it. -/
def seg1 : Pipeline.HostSeg (Name := ℕ) (U := 𝕌) (pcfgs (F := F)) defs₀ Variants.none L lv :=
  Pipeline.HostSeg.ofOps _ _ _ _ _ (ucRefs τ sig) hostOps1 (fun op h => sub_ucRefs op ((List.forall_iff_forall_mem.mp hostOps1_sub) op h))
    (fun op h => (List.forall_iff_forall_mem.mp hostOps1_fresh) op h) (VE m) OW

theorem held_eq (c : Dev nD) (W : Valuation τ sig (Elt F)) :
    StableHlo.held (c : Thread nD τ) (ucRefs τ sig) W = (unscopedBufs c (fun b => W (Proc.devRef .tc b)) : sProp 𝕄) :=
  (unscopedBufs_held (Ix := Unit) (Name := ℕ) (U := 𝕌) (Lvl := ℕ) c W).symm

/-- The windows' arrays end as the kernel found them, which is what the buffers hold when the kernel ends. -/
theorem arr_end (c : Dev nD) (w : Fin cfg0.W) :
    (dats m 0 c).arrAt w cfg0.N = VE m c (Proc.devRef .tc (Pipeline.arrRef spec0 w)) := by
  have h : Pipeline.arrRef spec0 w ≠ main_v3 := by revert w; decide
  rw [(dats m 0 c).arrAt_in w (by revert w; decide) _, VE_ne m c _ h]
  exact A_eq m c w

/-- What the kernel's run leaves alone. -/
abbrev bypass (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg4) ↦{fullShare} V m c main_arg4) ∗ (((c : Thread nD τ).loc main_v4) ↦{fullShare} V m c main_v4))

-- the library's lemmas are stated over a family of pipelines; unification unfolds the one at hand
set_option backward.isDefEq.respectTransparency.types false in
/-- The kernel. -/
def reg0 : Pipeline.RegionSeg (pcfgs (F := F)) adm (dats m) () defs₀ Variants.none L lv 0 where
  win := launch0.win.to₀
  block_pos := launch0.block_pos
  stage_whole := launch0.stage_whole
  K := Fin 4 ⊕ Fin 4 × Fin 16
  osem := osem
  ho := osem_facts
  hbody c := (body_obligation m c).loose
  hwaits := Pipeline.hwaits_of_owed_zero _ _ _ _ L lv 0 fun _ _ => rfl
  pre c := iprop(StableHlo.held (c : Thread nD τ) (ucRefs τ sig) (V0 m c) ∗ OW c)
  post c := iprop(StableHlo.held (c : Thread nD τ) (ucRefs τ sig) (VE m c) ∗ OW c)
  X c := iprop(((((c : Thread nD τ).loc main_arg3) ↦{fullShare} We m c) ∗ (((c : Thread nD τ).loc main_v3) ↦{fullShare} V m c main_v3)) ∗ sems0 c)
  Y c := iprop((((c : Thread nD τ).loc main_arg3) ↦{fullShare} We m c) ∗ (((c : Thread nD τ).loc main_v3) ↦{fullShare} outAt m c))
  Z c := bypass m c
  hentry c := by
    rw [held_eq, ownSems0_eq]
    have hsplit := (Pipeline.arrays_of_unscopedBufs (pcfgs (F := F)) adm (dats m) launch0.win launch0.arr_whole c
      ((dats m 0 c).share_full fun _ => rfl) (V m c) (A_eq m c)).trans (BIClass.sep_mono .rfl (Entails.of_eq (unscopedRest0_eq c (V m c))))
    iintro ⟨⟨Hub, HO⟩, Hos, -⟩
    ihave H := hsplit $$ Hub
    icases H with ⟨Ha, H0, H2, H3, H4, Hv, Hv4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [H3 Hv Hos]
    · isplitl [H3 Hv]
      · isplitl [H3] <;> iassumption
      iexact Hos
    isplitl [H0]; · iexact H0
    isplitl [H2]; · iexact H2
    isplitl [H4] <;> iassumption
  hin c := by
    rw [show (dats m 0 c).Φ 0 = inv m c 0 from rfl]
    refine .trans ?_ (inv_start m c (V m c main_v3))
    rw [show Pipeline.scopedRest (Ix := Unit) (Name := ℕ) (U := 𝕌) (Lvl := ℕ) (Val := Elt F) (Pipeline.pin (pcfgs (F := F)) adm 0).spec c
      = _ from scopedRest0_eq c]
    iintro ⟨⟨⟨H3, Hv⟩, Hos⟩, -, Hr⟩
    isplitl [H3]; · iexact H3
    isplitl [Hv]; · iexact Hv
    isplitl [Hos] <;> iassumption
  hout c := by
    rw [ownSems0_eq, show (dats m 0 c).Φ (Fin.last cfg0.N) = inv m c 12 from rfl]
    rw [show Pipeline.scopedRest (Ix := Unit) (Name := ℕ) (U := 𝕌) (Lvl := ℕ) (Val := Elt F) (Pipeline.pin (pcfgs (F := F)) adm 0).spec c
      = _ from scopedRest0_eq c]
    exact inv_end m c
  hexit c := by
    have hjoin := Pipeline.unscopedBufs_of_arrays (p := (0 : Fin 1)) (pcfgs (F := F)) adm (Ix := Unit) (Name := ℕ) (U := 𝕌) (Lvl := ℕ)
      launch0.win launch0.arr_whole c (dats m) ((dats m 0 c).share_full fun _ => rfl)
      (fun b => VE m c (Proc.devRef .tc b)) (fun b => VE m c (Proc.devRef .tc b)) ((dats m 0 c).arrAt · cfg0.N)
      (fun w => arr_end m c w) (fun b _ => rfl)
    have hrest := unscopedRest0_eq (Ix := Unit) (Name := ℕ) (U := 𝕌) (Lvl := ℕ) c (fun b => VE m c (Proc.devRef .tc b))
    dsimp only at hrest
    rw [VE_v3, VE_ne m c main_arg0 (by decide), VE_ne m c main_arg2 (by decide), VE_ne m c main_arg3 (by decide),
      VE_ne m c main_arg4 (by decide), VE_ne m c main_v4 (by decide)] at hrest
    rw [held_eq]
    iintro ⟨Ha, HO, ⟨H3, Hv⟩, ⟨H0, H2, H4, Hv4⟩⟩
    imodintro
    isplitr [HO]
    · iapply hjoin
      isplitl [Ha]; · iexact Ha
      iapply (Entails.of_eq hrest.symm)
      isplitl [H0]; · iexact H0
      isplitl [H2]; · iexact H2
      isplitl [H3]; · iexact H3
      isplitl [H4]; · iexact H4
      isplitl [Hv] <;> iassumption
    · unfold Pipeline.Dat.owesAt Pipeline.owesWithin
      icases HO with ⟨%W, -, HO⟩; iexists W; iexact HO

set_option maxRecDepth 4096 in
/-- Every semaphore of the machine is either another unit's or this program's own. -/
theorem sem_scoped (g : GSem nD τ sig) : g.1.2 ≠ .tc ∨ g.2.isScoped .tc = true := .inr (by
  obtain ⟨t, l⟩ := g
  show l.isScoped .tc = true
  revert l; decide)

/-- The program as its three segments. -/
abbrev segs : List (Pipeline.Seg (pcfgs (F := F)) adm (dats m) () defs₀ Variants.none L lv) :=
  [.host (seg0 m), .region (reg0 m), .host (seg1 m)]

set_option backward.isDefEq.respectTransparency.types false in
/-- The run. -/
theorem run_main :
    θ_run defs (onTc (τ := τ) (main (F := F))) (s₀ m ρ) (fun r =>
      (∀ c : Dev nD, ∀ b ∈ ucRefs τ sig, r.2.mem ((c : Thread nD τ).1, b) = StableHlo.after hostOps1 (VE m c) b) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (VL m c) ∗ OW c))
    (Tₙ := fun c => StableHlo.held (c : Thread nD τ) (ucRefs τ sig) (StableHlo.after hostOps1 (VE m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (ucRefs τ sig) (VL m c) from (held_eq c (VL m c)).symm]
      iintro ⟨⟨Hh, -, HO, -, -, -⟩, -⟩
      imodintro
      isplitl [Hh]; · iexact Hh
      iexists ∅; iexact HO)
    (QY := fun c s => ∀ b ∈ ucRefs τ sig, s.mem ((c : Thread nD τ).1, b) = StableHlo.after hostOps1 (VE m c) b)
    (hfin := fun c s' => by
      unfold StableHlo.held
      iintro ⟨Hh, HSI⟩
      ihave Hr := (pointsTo_read_all (ucRefs τ sig) (fun b => ((c : Thread nD τ).1, b)) (StableHlo.after hostOps1 (VE m c)) s') $$ [Hh HSI]
      · isplitl [Hh] <;> iassumption
      imodintro; iexact Hr)
    (hQ := fun _ h hz => ⟨h, funext fun g => hz g (sem_scoped g)⟩)

/-! ## What the run leaves, buffer by buffer -/

/-- The last reshape writes only its own result. -/
theorem after_ne (c : Dev nD) (b : Ref sig .tc) (h : b ≠ main_v4) (h3 : b ≠ main_v3) :
    StableHlo.after hostOps1 (VE m c) (Proc.devRef .tc b) = V m c b := by
  rw [← VE_ne m c b h3]
  refine StableHlo.after_of_forall_not_mem (b := Proc.devRef .tc b) _ _ (List.forall_iff_forall_mem.mp ?_)
  simp only [hostOps1, List.Forall, StableHlo.reshape_writes, Finset.mem_singleton]
  exact StableHlo.devRef_ne_of_ne h

/-- The program's result. -/
def result (c : Dev nD) : main_v4.ty.Contents (Elt F) := StableHlo.after hostOps1 (VE m c) (Proc.devRef .tc main_v4)

/-- The arguments end as they began, the result buffer holds the result, every semaphore reads zero. -/
theorem run_result :
    θ_run defs (onTc (τ := τ) (main (F := F))) ⟨m, fun _ => 0, ρ⟩ (fun r =>
      (∀ c : Dev nD,
        r.2.mem ((c : Thread nD τ).loc main_v4) = result m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run _ _ _).mono (fun r h => ⟨fun c =>
    have rd (b : Ref sig .tc) (hb : b.isScoped = false) :
        r.2.mem ((c : Thread nD τ).loc b) = StableHlo.after hostOps1 (VE m c) (Proc.devRef .tc b) := h.1 c (Proc.devRef .tc b) (Pipeline.devRef_mem_ucRefs hb)
    ⟨rd main_v4 rfl,
      (rd main_arg0 rfl).trans ((after_ne m c main_arg0 (by decide) (by decide)).trans (V_main_arg0 m c)),
      (rd main_arg1 rfl).trans ((after_ne m c main_arg1 (by decide) (by decide)).trans (V_main_arg1 m c)),
      (rd main_arg2 rfl).trans ((after_ne m c main_arg2 (by decide) (by decide)).trans (V_main_arg2 m c)),
      (rd main_arg3 rfl).trans ((after_ne m c main_arg3 (by decide) (by decide)).trans (V_main_arg3 m c)),
      (rd main_arg4 rfl).trans ((after_ne m c main_arg4 (by decide) (by decide)).trans (V_main_arg4 m c))⟩, h.2⟩)
    (run_main m ρ)

end Cert.KernelIdeal.Hand

end
-- ==== Proof.KernelFrame.lean ====
/-
  The frame of the kernel as printed. The idealized program is the printed one, no operation being rewritten, so the two
  body tables and the two host programs are equal, and the run proved for any float values is the printed program's.
-/
module

public import proofs.«01_k».proof.Proof.KernelIdeal.Run
public import proofs.«01_k».proof.Proof.Gen.Kernel
public import proofs.«01_k».proof.Defs

@[expose] public section

noncomputable section

open Idealize.ShloMosaic Idealize.ShloMosaic.TcCoe Idealize.SL.Sem

namespace Cert.KernelIdeal.Hand

open Cert.KernelIdeal Cert.KernelIdeal.Gen

variable {F : FTy → Type} [FloatOps F]

/-- The run, of which only the frame is kept: the arguments end as they began, every semaphore reads zero. -/
theorem run_frame (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run _ _ _).mono (fun r h => ⟨fun c => (h.1 c).2, h.2⟩) (run_result m ρ)

/-- The two programs have one table of kernel bodies. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext p x
  match p, x with
  | 0, (t, s) => rfl

/-- And one table of all bodies, the pipeline's included. -/
theorem defs_eq : @Cert.Kernel.defs F _ Cert.Kernel.Gen.facts = @Cert.KernelIdeal.defs F _ Cert.KernelIdeal.Gen.facts := by
  unfold Cert.Kernel.defs Cert.KernelIdeal.defs
  rw [bodies_eq]
  rfl

/-- The frame of the idealized program, as the claim states it. -/
theorem frame_ideal : @Cert.quiescent_KernelIdeal Cert.KernelIdeal.Gen.facts := fun m g _ => run_frame m g

/-- The frame of the printed program, as the claim states it. -/
theorem frame_printed : @Cert.quiescent_Kernel Cert.Kernel.Gen.facts := fun m g _ => by
  have h := run_frame (F := Bits) m g
  rw [← defs_eq] at h
  exact h

end Cert.KernelIdeal.Hand

end
-- ==== Proof.ReferenceIdeal.Run.lean ====
/-
  The reference's run. Its program is a straight line of host operations; the lines of its two outlined functions stand in the
  list where they are called. The arguments end as they began, the result is the line's term over the arguments.
-/
module

public import proofs.«01_k».proof.Proof.Gen.ReferenceIdeal
public import proofs.«01_k».proof.Defs
public import Idealize.ShloMosaic.Lib.StableHlo.RunHlo
public import Idealize.ShloMosaic.Lib.StableHlo.RunRead
public import Idealize.ShloMosaic.Lib.Quiescent

@[expose] public section

noncomputable section

open Idealize.ShloMosaic Idealize.ShloMosaic.TcCoe Idealize.SL.Sem

namespace Cert.ReferenceIdeal.Hand

open Cert.ReferenceIdeal Cert.ReferenceIdeal.Gen

variable {F : FTy → Type} [FloatOps F]

/-- The program's operations, in order. -/
def ops : List (HloOp τ sig (Elt F)) :=
  [ StableHlo.reshape main_arg0 main_v0 (rfl : (.f32 : EltTy) = .f32) shapeCasts_S4x2048x2048_S8192x2048,
    StableHlo.unary main_arg1 main_v1 ((transpose S2048x8 [1, 0] · transposes_S8x2048_S2048x8_1_0) : (⟨S8x2048, .f32⟩ : BufTy).Contents (Elt F) → (⟨S2048x8, .f32⟩ : BufTy).Contents (Elt F)),
    StableHlo.binary main_v0 main_v1 main_v2 ((fun l r => Host.dotGeneral dot_S8192x2048_S2048x8_S8192x8_1_0_0_1_n_n none l r) : (⟨S8192x2048, .f32⟩ : BufTy).Contents (Elt F) → (⟨S2048x8, .f32⟩ : BufTy).Contents (Elt F) → (⟨S8192x8, .f32⟩ : BufTy).Contents (Elt F)),
    StableHlo.unary main_arg2 main_v3 (broadcastInDim S1x8 ![1] bcast_S8_S1x8_1 : (⟨S8, .f32⟩ : BufTy).Contents (Elt F) → (⟨S1x8, .f32⟩ : BufTy).Contents (Elt F)),
    StableHlo.unary main_v3 main_v4 (broadcastInDim S8192x8 ![0, 1] bcast_S1x8_S8192x8_0_1 : (⟨S1x8, .f32⟩ : BufTy).Contents (Elt F) → (⟨S8192x8, .f32⟩ : BufTy).Contents (Elt F)),
    StableHlo.binary main_v2 main_v4 main_v5 (addf : (⟨S8192x8, .f32⟩ : BufTy).Contents (Elt F) → (⟨S8192x8, .f32⟩ : BufTy).Contents (Elt F) → (⟨S8192x8, .f32⟩ : BufTy).Contents (Elt F)),
    StableHlo.nullary main_cst (constant S_ .f32 0xFF800000#32),
    StableHlo.binary main_v5 main_cst main_v6 ((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.nullary main_cst_0 (constant S_ .f32 0xFF800000#32),
    StableHlo.unary main_cst_0 main_v7 (broadcastInDim S8192 ![] bcast_S_S8192 : (⟨S_, .f32⟩ : BufTy).Contents (Elt F) → (⟨S8192, .f32⟩ : BufTy).Contents (Elt F)),
    StableHlo.binary main_v7 main_v6 main_v8 (maximumf : (⟨S8192, .f32⟩ : BufTy).Contents (Elt F) → (⟨S8192, .f32⟩ : BufTy).Contents (Elt F) → (⟨S8192, .f32⟩ : BufTy).Contents (Elt F)),
    StableHlo.unary main_v8 main_v9 (broadcastInDim S8192x1 ![0] bcast_S8192_S8192x1_0 : (⟨S8192, .f32⟩ : BufTy).Contents (Elt F) → (⟨S8192x1, .f32⟩ : BufTy).Contents (Elt F)),
    StableHlo.unary main_v9 main_v10 (broadcastInDim S8192x8 ![0, 1] bcast_S8192x1_S8192x8_0_1 : (⟨S8192x1, .f32⟩ : BufTy).Contents (Elt F) → (⟨S8192x8, .f32⟩ : BufTy).Contents (Elt F)),
    StableHlo.binary main_v5 main_v10 main_v11 (subf : (⟨S8192x8, .f32⟩ : BufTy).Contents (Elt F) → (⟨S8192x8, .f32⟩ : BufTy).Contents (Elt F) → (⟨S8192x8, .f32⟩ : BufTy).Contents (Elt F)),
    StableHlo.unary main_v11 main_v12 (Host.exp : (⟨S8192x8, .f32⟩ : BufTy).Contents (Elt F) → (⟨S8192x8, .f32⟩ : BufTy).Contents (Elt F)),
    StableHlo.nullary main_cst_1 (constant S_ .f32 0x00000000#32),
    StableHlo.binary main_v12 main_cst_1 main_v13 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.unary main_v13 main_v14 (broadcastInDim S8192x1 ![0] bcast_S8192_S8192x1_0 : (⟨S8192, .f32⟩ : BufTy).Contents (Elt F) → (⟨S8192x1, .f32⟩ : BufTy).Contents (Elt F)),
    StableHlo.unary main_v14 main_v15 (broadcastInDim S8192x8 ![0, 1] bcast_S8192x1_S8192x8_0_1 : (⟨S8192x1, .f32⟩ : BufTy).Contents (Elt F) → (⟨S8192x8, .f32⟩ : BufTy).Contents (Elt F)),
    StableHlo.binary main_v12 main_v15 main_v16 (Host.divf : (⟨S8192x8, .f32⟩ : BufTy).Contents (Elt F) → (⟨S8192x8, .f32⟩ : BufTy).Contents (Elt F) → (⟨S8192x8, .f32⟩ : BufTy).Contents (Elt F)),
    StableHlo.nullary main_cst_2 (constant S_ .f32 0xFF800000#32),
    StableHlo.binary main_v16 main_cst_2 main_v17 ((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.TRef.nullary main_call0.v0 (iotaInDim S8192x8 32 1),
    StableHlo.TRef.nullary main_call0.cst (constant S_ .f32 0xFF800000#32),
    StableHlo.TRef.nullary main_call0.c (constantI S_ 32 0#32),
    StableHlo.TRef.quaternary (.of main_v16 : StableHlo.TRef sig ⟨S8192x8, .f32⟩) main_call0.v0 main_call0.cst main_call0.c main_call0.v1_0 (fun x y u v j => (Host.argReduce reducer_argmax_f32_i32 x y u v reducesTo_S8192x8_S8192_d1 h_S_ j).1),
    StableHlo.TRef.quaternary (.of main_v16 : StableHlo.TRef sig ⟨S8192x8, .f32⟩) main_call0.v0 main_call0.cst main_call0.c main_call0.v1_1 (fun x y u v j => (Host.argReduce reducer_argmax_f32_i32 x y u v reducesTo_S8192x8_S8192_d1 h_S_ j).2),
    StableHlo.TRef.unary (.of main_v18 : StableHlo.TRef sig ⟨S8192, .i32⟩) main_call1.v0 (broadcastInDim S8192x1 ![0] bcast_S8192_S8192x1_0),
    StableHlo.TRef.nullary main_call1.v1 (iotaInDim S1x8 32 1),
    StableHlo.TRef.unary main_call1.v0 main_call1.v2 (broadcastInDim S8192x8 ![0, 1] bcast_S8192x1_S8192x8_0_1),
    StableHlo.TRef.unary main_call1.v1 main_call1.v3 (broadcastInDim S8192x8 ![0, 1] bcast_S1x8_S8192x8_0_1),
    StableHlo.TRef.binary main_call1.v2 main_call1.v3 main_call1.v4 (cmpi .eq),
    StableHlo.TRef.unary main_call1.v4 main_call1.v5 (uitofp .f32),
    StableHlo.unary main_arg3 main_v20 ((transpose S2048x2048 [1, 0] · transposes_S2048x2048_S2048x2048_1_0) : (⟨S2048x2048, .f32⟩ : BufTy).Contents (Elt F) → (⟨S2048x2048, .f32⟩ : BufTy).Contents (Elt F)),
    StableHlo.binary main_v0 main_v20 main_v21 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    StableHlo.unary main_arg4 main_v22 (broadcastInDim S1x2048 ![1] bcast_S2048_S1x2048_1 : (⟨S2048, .f32⟩ : BufTy).Contents (Elt F) → (⟨S1x2048, .f32⟩ : BufTy).Contents (Elt F)),
    StableHlo.unary main_v22 main_v23 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v21 main_v23 main_v24 (addf : (⟨S8192x2048, .f32⟩ : BufTy).Contents (Elt F) → (⟨S8192x2048, .f32⟩ : BufTy).Contents (Elt F) → (⟨S8192x2048, .f32⟩ : BufTy).Contents (Elt F)),
    StableHlo.nullary main_cst_3 (constant S_ .f32 0x00000000#32),
    StableHlo.binary main_v19 main_cst_3 main_v25 ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)),
    StableHlo.unary main_v25 main_v26 (broadcastInDim S8192x1 ![0] bcast_S8192_S8192x1_0 : (⟨S8192, .f32⟩ : BufTy).Contents (Elt F) → (⟨S8192x1, .f32⟩ : BufTy).Contents (Elt F)),
    StableHlo.binary main_v17 main_v24 main_v27 ((fun l r => Host.dotGeneral dot_S8192_S8192x2048_S2048_0_0_n_1_n_n none l r) : (⟨S8192, .f32⟩ : BufTy).Contents (Elt F) → (⟨S8192x2048, .f32⟩ : BufTy).Contents (Elt F) → (⟨S2048, .f32⟩ : BufTy).Contents (Elt F)),
    StableHlo.unary main_v27 main_v28 (broadcastInDim S1x2048 ![1] bcast_S2048_S1x2048_1 : (⟨S2048, .f32⟩ : BufTy).Contents (Elt F) → (⟨S1x2048, .f32⟩ : BufTy).Contents (Elt F)),
    StableHlo.unary main_v26 main_v29 (broadcastInDim S8192x2048 ![0, 1] bcast_S8192x1_S8192x2048_0_1 : (⟨S8192x1, .f32⟩ : BufTy).Contents (Elt F) → (⟨S8192x2048, .f32⟩ : BufTy).Contents (Elt F)),
    StableHlo.unary main_v28 main_v30 (broadcastInDim S8192x2048 ![0, 1] bcast_S1x2048_S8192x2048_0_1 : (⟨S1x2048, .f32⟩ : BufTy).Contents (Elt F) → (⟨S8192x2048, .f32⟩ : BufTy).Contents (Elt F)),
    StableHlo.binary main_v29 main_v30 main_v31 (mulf : (⟨S8192x2048, .f32⟩ : BufTy).Contents (Elt F) → (⟨S8192x2048, .f32⟩ : BufTy).Contents (Elt F) → (⟨S8192x2048, .f32⟩ : BufTy).Contents (Elt F)),
    StableHlo.reshape main_v31 main_v32 (rfl : (.f32 : EltTy) = .f32) shapeCasts_S8192x2048_S4x2048x2048 ]

/-- The program is that line. -/
theorem main_seq (d : Dev nD) : main (F := F) d = StableHlo.seq ops := rfl

/-- The program runs to what its line leaves in every buffer. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  StableHlo.run_hlo _ _ main_seq (by decide) (by decide) (by simp [ops])
    (by intro _ h; unfold ops at h; (repeat (cases h with | head => rfl | tail _ h => ?_)); exact nomatch h) m ρ

variable (V : Valuation τ sig (Elt F))

theorem after_arg0 : StableHlo.after ops V (Proc.devRef .tc main_arg0) = V (Proc.devRef .tc main_arg0) := by after_reads_simp
theorem after_arg1 : StableHlo.after ops V (Proc.devRef .tc main_arg1) = V (Proc.devRef .tc main_arg1) := by after_reads_simp
theorem after_arg2 : StableHlo.after ops V (Proc.devRef .tc main_arg2) = V (Proc.devRef .tc main_arg2) := by after_reads_simp
theorem after_arg3 : StableHlo.after ops V (Proc.devRef .tc main_arg3) = V (Proc.devRef .tc main_arg3) := by after_reads_simp
theorem after_arg4 : StableHlo.after ops V (Proc.devRef .tc main_arg4) = V (Proc.devRef .tc main_arg4) := by after_reads_simp

/-- The tokens, one a row. -/
def toks (x : FVec F S4x2048x2048 .f32) : FVec F S8192x2048 .f32 := shapeCast S8192x2048 x facts₀.shapeCasts_S4x2048x2048_S8192x2048

/-- The router's logits. -/
def logits (x : FVec F S4x2048x2048 .f32) (wr : FVec F S8x2048 .f32) (br : FVec F S8 .f32) : FVec F S8192x8 .f32 :=
  addf (Host.dotGeneral dot_S8192x2048_S2048x8_S8192x8_1_0_0_1_n_n none (toks x) (transpose S2048x8 [1, 0] wr facts₀.transposes_S8x2048_S2048x8_1_0))
    (broadcastInDim S8192x8 ![0, 1] facts₀.bcast_S1x8_S8192x8_0_1 (broadcastInDim S1x8 ![1] facts₀.bcast_S8_S1x8_1 br))

/-- The logits' row maxima, one below at minus infinity. -/
def tops (l : FVec F S8192x8 .f32) : FVec F S8192 .f32 :=
  maximumf (broadcastInDim S8192 ![] facts₀.bcast_S_S8192 (constant S_ .f32 0xFF800000#32))
    (Host.reduce FloatOps.maximumf l (constant S_ .f32 0xFF800000#32) facts₀.reducesTo_S8192x8_S8192_d1 facts₀.h_S_)

/-- A column spread over the experts. -/
def spread (v : FVec F S8192 .f32) : FVec F S8192x8 .f32 :=
  broadcastInDim S8192x8 ![0, 1] facts₀.bcast_S8192x1_S8192x8_0_1 (broadcastInDim S8192x1 ![0] facts₀.bcast_S8192_S8192x1_0 v)

/-- The exponentials of the logits less their row maximum. -/
def exps (l : FVec F S8192x8 .f32) : FVec F S8192x8 .f32 := Host.exp (subf l (spread (tops l)))

/-- The softmax. -/
def soft (l : FVec F S8192x8 .f32) : FVec F S8192x8 .f32 :=
  Host.divf (exps l) (spread (Host.reduceAdd (exps l) (constant S_ .f32 0x00000000#32) facts₀.reducesTo_S8192x8_S8192_d1 facts₀.h_S_))

/-- The gates: the softmax's row maxima. -/
def gates (p : FVec F S8192x8 .f32) : FVec F S8192 .f32 :=
  Host.reduce FloatOps.maximumf p (constant S_ .f32 0xFF800000#32) facts₀.reducesTo_S8192x8_S8192_d1 facts₀.h_S_

/-- The chosen experts. -/
def picks (p : FVec F S8192x8 .f32) : IVec S8192 32 := fun j =>
  (Host.argReduce reducer_argmax_f32_i32 p (iotaInDim S8192x8 32 1) (constant S_ .f32 0xFF800000#32) (constantI S_ 32 0#32)
    facts₀.reducesTo_S8192x8_S8192_d1 facts₀.h_S_ j).2

/-- Their one-hot rows. -/
def hots (k : IVec S8192 32) : FVec F S8192x8 .f32 :=
  uitofp .f32 (cmpi .eq
    (broadcastInDim S8192x8 ![0, 1] facts₀.bcast_S8192x1_S8192x8_0_1 (broadcastInDim S8192x1 ![0] facts₀.bcast_S8192_S8192x1_0 k))
    (broadcastInDim S8192x8 ![0, 1] facts₀.bcast_S1x8_S8192x8_0_1 (iotaInDim S1x8 32 1)))

/-- The expert's outputs. -/
def outs (x : FVec F S4x2048x2048 .f32) (we : FVec F S2048x2048 .f32) (be : FVec F S2048 .f32) : FVec F S8192x2048 .f32 :=
  addf (Host.dotGeneral dot_S8192x2048_S2048x2048_S8192x2048_1_0_0_1_n_n none (toks x) (transpose S2048x2048 [1, 0] we facts₀.transposes_S2048x2048_S2048x2048_1_0))
    (broadcastInDim S8192x2048 ![0, 1] facts₀.bcast_S1x2048_S8192x2048_0_1 (broadcastInDim S1x2048 ![1] facts₀.bcast_S2048_S1x2048_1 be))

/-- The result as a matrix: the one-hot rows' sums times the gated sum of the expert's outputs. -/
def prods (p : FVec F S8192 .f32) (y : FVec F S2048 .f32) : FVec F S8192x2048 .f32 :=
  mulf (broadcastInDim S8192x2048 ![0, 1] facts₀.bcast_S8192x1_S8192x2048_0_1 (broadcastInDim S8192x1 ![0] facts₀.bcast_S8192_S8192x1_0 p))
    (broadcastInDim S8192x2048 ![0, 1] facts₀.bcast_S1x2048_S8192x2048_0_1 (broadcastInDim S1x2048 ![1] facts₀.bcast_S2048_S1x2048_1 y))

/-- The reference's result. -/
def refVal (x : FVec F S4x2048x2048 .f32) (wr : FVec F S8x2048 .f32) (br : FVec F S8 .f32) (we : FVec F S2048x2048 .f32) (be : FVec F S2048 .f32) :
    FVec F S4x2048x2048 .f32 :=
  shapeCast S4x2048x2048
    (prods (Host.reduceAdd (hots (picks (soft (logits x wr br)))) (constant S_ .f32 0x00000000#32) facts₀.reducesTo_S8192x8_S8192_d1 facts₀.h_S_)
      (Host.dotGeneral dot_S8192_S8192x2048_S2048_0_0_n_1_n_n none (gates (soft (logits x wr br))) (outs x we be)))
    facts₀.shapeCasts_S8192x2048_S4x2048x2048

set_option maxRecDepth 16384 in
/-- The line leaves the reference's result in the result buffer. -/
theorem after_result : StableHlo.after ops V (Proc.devRef .tc main_v32)
    = refVal (V (Proc.devRef .tc main_arg0)) (V (Proc.devRef .tc main_arg1)) (V (Proc.devRef .tc main_arg2))
        (V (Proc.devRef .tc main_arg3)) (V (Proc.devRef .tc main_arg4)) := by
  after_reads_simp
  simp only [StableHlo.TRef.ofBuf_toBuf]
  generalize V (Proc.devRef .tc main_arg0) = x
  generalize V (Proc.devRef .tc main_arg1) = wr
  generalize V (Proc.devRef .tc main_arg2) = br
  generalize V (Proc.devRef .tc main_arg3) = we
  generalize V (Proc.devRef .tc main_arg4) = be
  unfold refVal prods outs hots picks gates soft exps spread tops logits toks
  rfl

/-- The reference's run: the result, the arguments kept, no semaphore left raised. -/
theorem run_result (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c : Thread nD τ).loc main_v32) = refVal (m ((c : Thread nD τ).loc main_arg0)) (m ((c : Thread nD τ).loc main_arg1))
          (m ((c : Thread nD τ).loc main_arg2)) (m ((c : Thread nD τ).loc main_arg3)) (m ((c : Thread nD τ).loc main_arg4))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run _ _ _).mono (fun r h => ⟨fun c =>
    ⟨(h c main_v32).trans (after_result _), (h c main_arg0).trans (after_arg0 _), (h c main_arg1).trans (after_arg1 _),
      (h c main_arg2).trans (after_arg2 _), (h c main_arg3).trans (after_arg3 _), (h c main_arg4).trans (after_arg4 _)⟩,
    sem_eq_zero_of_no_sems (by decide) _⟩) (run_ops m ρ)

/-- The frame of the reference, as the claim states it. -/
theorem frame_reference : @Cert.quiescent_ReferenceIdeal Cert.ReferenceIdeal.Gen.facts := fun m g _ =>
  (θ_run _ _ _).mono (fun _ h => ⟨fun c => (h.1 c).2, h.2⟩) (run_result m g)

end Cert.ReferenceIdeal.Hand

end
-- ==== Proof.Value.Blocks.lean ====
/-
  What the kernel's windows show at a grid point: a block of 1024 token rows, and the router's weights and the two biases whole.
-/
module

public import proofs.«01_k».proof.Proof.KernelIdeal.Run
public import Idealize.ShloMosaic.Lib.Pipeline.ValueKit.Point
public import Idealize.ShloMosaic.Lib.StableHlo.RunRead

@[expose] public section

noncomputable section

namespace Cert.KernelIdeal.Hand

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ)

/-- The tokens as rows. -/
def rows (c : Dev nD) : S8192x2048.Idx → Elt F .f32 := shapeCast S8192x2048 (m ((c : Thread nD τ).loc main_arg0)) shapeCasts_S4x2048x2048_S8192x2048

/-- The token window's block at point `n` of the first eight is block `n`; the other windows have one block. -/
theorem idx_tok : ∀ n : Fin 8, win0_0.index (pt n.val) = ![n.val, 0] := by decide +kernel
theorem idx_wr : ∀ n : Fin 8, win0_1.index (pt n.val) = ![0, 0] := by decide +kernel
theorem idx_br : ∀ n : Fin 8, win0_2.index (pt n.val) = ![0, 0] := by decide +kernel
theorem idx_be : win0_3.index (pt 0) = ![0, 0] := by decide +kernel

/-! The host's reshapes before the kernel. -/

theorem V_v0 (c : Dev nD) : V m c main_v0 = rows m c := by
  show StableHlo.after hostOps0 (fun b => m (c, b)) (Proc.devRef .tc main_v0) = _
  unfold hostOps0
  after_reads_simp
  rfl

theorem V_v1 (c : Dev nD) : V m c main_v1 = shapeCast S1x8 (m ((c : Thread nD τ).loc main_arg2)) shapeCasts_S8_S1x8 := by
  show StableHlo.after hostOps0 (fun b => m (c, b)) (Proc.devRef .tc main_v1) = _
  unfold hostOps0
  after_reads_simp
  rfl

theorem V_v2 (c : Dev nD) : V m c main_v2 = shapeCast S1x2048 (m ((c : Thread nD τ).loc main_arg4)) shapeCasts_S2048_S1x2048 := by
  show StableHlo.after hostOps0 (fun b => m (c, b)) (Proc.devRef .tc main_v2) = _
  unfold hostOps0
  after_reads_simp
  rfl

/-! A block read at an index. -/

theorem read_tok (n : Fin 8) (X : S8192x2048.Idx → Elt F .f32) (b : Fin 1024) (j : Fin 2048) :
    ((cfg0.win 0).blk (pt n.val)).view.read (Elt F) X (ix2 b j) = X (ix2 ⟨n.val * 1024 + b.val, by omega⟩ j) := by
  have e := idx_tok n
  blk_ext [e]

theorem read_wr (n : Fin 8) (X : S8x2048.Idx → Elt F .f32) (k : Fin 8) (j : Fin 2048) :
    ((cfg0.win 1).blk (pt n.val)).view.read (Elt F) X (ix2 k j) = X (ix2 k j) := by
  have e := idx_wr n
  blk_ext [e]

theorem read_br (n : Fin 8) (X : S1x8.Idx → Elt F .f32) (k : Fin 8) :
    ((cfg0.win 2).blk (pt n.val)).view.read (Elt F) X (ix2 0 k) = X (ix2 0 k) := by
  have e := idx_br n
  blk_ext [e]

theorem read_be (X : S1x2048.Idx → Elt F .f32) (h : Fin 2048) :
    ((cfg0.win 3).blk (pt 0)).view.read (Elt F) X (ix2 0 h) = X (ix2 0 h) := by
  have e := idx_be
  blk_ext [e]

theorem blk_tok (c : Dev nD) (n : Fin 8) (b : Fin 1024) (j : Fin 2048) :
    iblk m c 0 (pt n.val) (ix2 b j) = rows m c (ix2 ⟨n.val * 1024 + b.val, by omega⟩ j) :=
  (read_tok n (V m c main_v0) b j).trans (congrFun (V_v0 m c) _)

theorem blk_wr (c : Dev nD) (n : Fin 8) (e : Fin 8) (j : Fin 2048) :
    iblk m c 1 (pt n.val) (ix2 e j) = m ((c : Thread nD τ).loc main_arg1) (ix2 e j) :=
  (read_wr n (V m c main_arg1) e j).trans (congrFun (V_main_arg1 m c) _)

set_option maxRecDepth 16384 in
theorem blk_br (c : Dev nD) (n : Fin 8) (e : Fin 8) :
    iblk m c 2 (pt n.val) (ix2 0 e) = m ((c : Thread nD τ).loc main_arg2) (ix1 e) :=
  ((read_br n (V m c main_v1) e).trans (congrFun (V_v1 m c) _)).trans (by pointwise)

set_option maxRecDepth 16384 in
theorem blk_be (c : Dev nD) (h : Fin 2048) :
    be m c (ix2 0 h) = m ((c : Thread nD τ).loc main_arg4) (ix1 h) :=
  ((read_be (V m c main_v2) h).trans (congrFun (V_v2 m c) _)).trans (by pointwise)

end Cert.KernelIdeal.Hand

end
-- ==== Proof.Value.Gate.lean ====
/-
  The scalar part of the value: the gate of one token from its eight logits, and that it is the largest entry of the softmax.
  A logit row of reals has its largest entry among its own; there the exponential of the difference is one, elsewhere less.
-/
module

public import Idealize.ShloMosaic.Lib.Pointwise

@[expose] public section

noncomputable section

namespace Cert.Value

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of reals, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- The pattern of minus infinity is the least extended real. -/
theorem ofBits_bot : Ideal.ofBits FTy.f32 4286578688#32 = (⊥ : EReal) := by simp [Ideal.ofBits, Ideal.ieee]

/-- The largest of eight logits. -/
def top (l : Fin 8 → EReal) : EReal := Finset.fold max (Ideal.ofBits FTy.f32 4286578688#32) l Finset.univ

/-- The sum of the exponentials of the logits less the largest. -/
def den (l : Fin 8 → EReal) : EReal := ∑ e, Ideal.exp (l e - top l)

/-- The gate: one over that sum. -/
def gate (l : Fin 8 → EReal) : EReal := Ideal.div 1 (den l)

/-- The fold is an upper bound. -/
theorem le_fold (f : Fin 8 → EReal) (e : Fin 8) : f e ≤ top f :=
  Finset.le_fold_max (f e) |>.2 (Or.inr ⟨e, Finset.mem_univ e, le_rfl⟩)

/-- The fold is the least upper bound. -/
theorem fold_le {f : Fin 8 → EReal} {y : EReal} (h : ∀ e, f e ≤ y) : top f ≤ y :=
  Finset.fold_max_le y |>.2 ⟨by rw [ofBits_bot]; exact bot_le, fun e _ => h e⟩

/-- The fold is attained. -/
theorem top_attained (f : Fin 8 → EReal) : ∃ e, top f = f e := by
  obtain ⟨e, -, he⟩ := Finset.exists_max_image Finset.univ f ⟨0, Finset.mem_univ _⟩
  exact ⟨e, le_antisymm (fold_le fun e' => he e' (Finset.mem_univ e')) (le_fold f e)⟩

/-- The denominator of a row of reals is a positive real. -/
theorem den_pos {l : Fin 8 → EReal} (h : ∀ e, IsReal (l e)) : ∃ d : ℝ, 0 < d ∧ den l = (d : EReal) := by
  obtain ⟨e₀, he₀⟩ := top_attained l
  choose r hr using h
  refine ⟨∑ e, Real.exp (r e - r e₀), Finset.sum_pos (fun e _ => Real.exp_pos _) ⟨0, Finset.mem_univ _⟩, ?_⟩
  unfold den
  rw [he₀, coe_sum]
  refine Finset.sum_congr rfl fun e _ => ?_
  rw [hr, hr, ← EReal.coe_sub, Ideal.exp_coe]

/-- The gate of a row of reals is a real. -/
theorem gate_real {l : Fin 8 → EReal} (h : ∀ e, IsReal (l e)) : IsReal (gate l) := by
  obtain ⟨d, hd, hden⟩ := den_pos h
  unfold gate
  rw [hden, Ideal.div_coe hd.ne', one_mul]
  exact ⟨_, rfl⟩

/-- The gate of a row of reals is not negative. -/
theorem gate_nonneg {l : Fin 8 → EReal} (h : ∀ e, IsReal (l e)) : 0 ≤ gate l := by
  obtain ⟨d, hd, hden⟩ := den_pos h
  unfold gate
  rw [hden, Ideal.div_coe hd.ne', one_mul]
  exact EReal.coe_nonneg.2 (by positivity)

/-- The softmax's largest entry is the gate. -/
theorem top_soft {l : Fin 8 → EReal} (h : ∀ e, IsReal (l e)) : top (fun e => Ideal.div (Ideal.exp (l e - top l)) (den l)) = gate l := by
  obtain ⟨d, hd, hden⟩ := den_pos h
  obtain ⟨e₀, he₀⟩ := top_attained l
  have hle := fun e => le_fold l e
  unfold gate
  rw [hden]
  rw [he₀] at hle ⊢
  choose r hr using h
  have hv : ∀ e, Ideal.div (Ideal.exp (l e - l e₀)) (d : EReal) = ((Real.exp (r e - r e₀) * (1 / d) : ℝ) : EReal) := fun e => by
    rw [hr, hr, ← EReal.coe_sub, Ideal.exp_coe, Ideal.div_coe hd.ne', EReal.coe_mul]
  have h1 : Ideal.div 1 (d : EReal) = ((1 / d : ℝ) : EReal) := by rw [Ideal.div_coe hd.ne', one_mul]
  rw [h1]
  refine le_antisymm (fold_le fun e => ?_) ?_
  · rw [hv, EReal.coe_le_coe_iff]
    have : r e ≤ r e₀ := by have := hle e; rwa [hr, hr, EReal.coe_le_coe_iff] at this
    have h2 : Real.exp (r e - r e₀) ≤ 1 := Real.exp_le_one_iff.2 (by linarith)
    have h3 : 0 ≤ 1 / d := by positivity
    nlinarith
  · refine le_trans (le_of_eq ?_) (le_fold (fun e => Ideal.div (Ideal.exp (l e - l e₀)) (d : EReal)) e₀)
    rw [hv]; simp

end Cert.Value

end
-- ==== Proof.Value.Algebra.lean ====
/-
  The algebra between the two programs, weighting every token's output and summing is the output of the
  weighted sum. Gates, tokens and weights are reals; the bias is any extended real, since the gates are not negative.
-/
module

public import proofs.«01_k».proof.Proof.Value.Gate
public import Idealize.ShloMosaic.Lib.Pipeline.ValueKit.Acc

@[expose] public section

noncomputable section

namespace Cert.Value

/-- The gated sum of the products is the product of the gated sum. -/
theorem gated_prod {B J : Type} [Fintype B] [Fintype J] (G : B → EReal) (x : B → J → EReal) (w : J → EReal)
    (hG : ∀ b, IsReal (G b)) (hx : ∀ b j, IsReal (x b j)) (hw : ∀ j, IsReal (w j)) :
    ∑ b, G b * (∑ j, x b j * w j) = ∑ j, (∑ b, G b * x b j) * w j := by
  choose g hg using hG
  choose y hy using hx
  choose v hv using hw
  have key : ∑ b, g b * (∑ j, y b j * v j) = ∑ j, (∑ b, g b * y b j) * v j := by
    simp only [Finset.mul_sum, Finset.sum_mul]
    rw [Finset.sum_comm]
    simp only [mul_assoc]
  simp only [hg, hy, hv, ← EReal.coe_mul, ← coe_sum]
  rw [key]

/-- Gates that are not negative distribute over any one extended real. -/
theorem gates_mul {B : Type} (s : Finset B) (G : B → EReal) (c : EReal) (h : ∀ b, 0 ≤ G b) : ∑ b ∈ s, G b * c = (∑ b ∈ s, G b) * c := by
  classical
  induction s using Finset.induction_on with
  | empty => simp
  | insert a s ha ih =>
    rw [Finset.sum_insert ha, Finset.sum_insert ha, ih, EReal.right_distrib_of_nonneg (h a) (Finset.sum_nonneg fun b _ => h b)]

/-- The gated sum of the linear map's outputs is the linear map of the gated sum, the bias weighted by the gates' sum. -/
theorem gated_sum {B J : Type} [Fintype B] [Fintype J] (G : B → EReal) (x : B → J → EReal) (w : J → EReal) (c : EReal)
    (hG : ∀ b, IsReal (G b)) (h0 : ∀ b, 0 ≤ G b) (hx : ∀ b j, IsReal (x b j)) (hw : ∀ j, IsReal (w j)) :
    ∑ b, G b * (∑ j, x b j * w j + c) = (∑ j, (∑ b, G b * x b j) * w j) + (∑ b, G b) * c := by
  have split : ∀ b, G b * (∑ j, x b j * w j + c) = G b * (∑ j, x b j * w j) + G b * c := fun b =>
    EReal.left_distrib_of_nonneg_of_ne_top (h0 b) (by obtain ⟨r, hr⟩ := hG b; rw [hr]; exact EReal.coe_ne_top r) _ _
  rw [Finset.sum_congr rfl fun b _ => split b, Finset.sum_add_distrib, gated_prod G x w hG hx hw, gates_mul _ G c h0]

/-- A sum over eight blocks of rows is the sum over all rows. -/
theorem sum_blocks (f : Fin 8192 → EReal) :
    ∑ n : Fin 8, ∑ b : Fin 1024, f ⟨n.val * 1024 + b.val, by omega⟩ = ∑ b, f b :=
  Fin.sum_mul_add_fin 8 1024 f

end Cert.Value

end
-- ==== Proof.Value.KernelRead.lean ====
/-
  The accumulator read at an index: its first row is the gated sum of the token rows, its second the sum of the gates.
-/
module

public import proofs.«01_k».proof.Proof.Value.Blocks
public import proofs.«01_k».proof.Proof.Value.Algebra

@[expose] public section

noncomputable section

namespace Cert.KernelIdeal.Hand

open Idealize.ShloMosaic Idealize.ShloMosaic.TcCoe Cert.KernelIdeal Cert.KernelIdeal.Gen Idealize.SL.Sem

/-- A block's logits. -/
def blkLogit (x : Vec Ideal S1024x2048 .f32) (wr : Vec Ideal S8x2048 .f32) (br : Vec Ideal S1x8 .f32) (b : Fin 1024) (e : Fin 8) : EReal :=
  ∑ j : Fin 2048, (x (ix2 b j) : EReal) * wr (ix2 e j) + br (ix2 0 e)

set_option maxRecDepth 16384 in
theorem pay1_row0 (x : Vec Ideal S1024x2048 .f32) (wr : Vec Ideal S8x2048 .f32) (br : Vec Ideal S1x8 .f32) (h : Fin 2048) :
    k0_pay1 x wr br (ix2 0 h) = ∑ b, Value.gate (blkLogit x wr br b) * x (ix2 b h) := by
  pointwise [k0_pay1]
  rfl

set_option maxRecDepth 16384 in
theorem pay1_row1 (x : Vec Ideal S1024x2048 .f32) (wr : Vec Ideal S8x2048 .f32) (br : Vec Ideal S1x8 .f32) (h : Fin 2048) :
    k0_pay1 x wr br (ix2 1 h) = ∑ b, Value.gate (blkLogit x wr br b) := by
  pointwise [k0_pay1]
  rfl

set_option maxRecDepth 16384 in
theorem pay2_read (x : Vec Ideal S1024x2048 .f32) (wr : Vec Ideal S8x2048 .f32) (br : Vec Ideal S1x8 .f32) (r : Fin 2) (h : Fin 2048) :
    k0_pay2 x wr br (ix2 r h) = k0_pay1 x wr br (ix2 r h) := by
  pointwise [k0_pay2]

set_option maxRecDepth 16384 in
theorem pay3_read (x : Vec Ideal S1024x2048 .f32) (wr : Vec Ideal S8x2048 .f32) (br : Vec Ideal S1x8 .f32) (ac : Vec Ideal S2x2048 .f32) (r : Fin 2) (h : Fin 2048) :
    k0_pay3 x wr br ac (ix2 r h) = (ac (ix2 r h) + k0_pay1 x wr br (ix2 r h) : EReal) := by
  pointwise [k0_pay3]

variable (m : (ℓ : Loc nD τ sig) → Buf (Elt Ideal) ℓ)

/-- Token row `b`'s logits. -/
def logit (c : Dev nD) (b : Fin 8192) (e : Fin 8) : EReal :=
  ∑ j : Fin 2048, (rows m c (ix2 b j) : EReal) * (m ((c : Thread nD τ).loc main_arg1) (ix2 e j) : EReal) + (m ((c : Thread nD τ).loc main_arg2) (ix1 e) : EReal)

theorem blkLogit_eq (c : Dev nD) (n : Fin 8) (b : Fin 1024) :
    blkLogit (iblk m c 0 (pt n.val)) (iblk m c 1 (pt n.val)) (iblk m c 2 (pt n.val)) b = logit m c ⟨n.val * 1024 + b.val, by omega⟩ := by
  funext e
  unfold blkLogit logit
  rw [blk_br m c n e]
  refine congrArg (· + _) (Finset.sum_congr rfl fun j _ => ?_)
  rw [blk_tok m c n b j, blk_wr m c n e j]

/-- One block's contribution at `(r, h)`. -/
def part (c : Dev nD) (n : ℕ) (r : Fin 2) (h : Fin 2048) : EReal :=
  k0_pay1 (iblk m c 0 (pt n)) (iblk m c 1 (pt n)) (iblk m c 2 (pt n)) (ix2 r h)

/-- The accumulator at `(r, h)` after `n + 1` blocks. -/
def acc (c : Dev nD) (n : ℕ) (r : Fin 2) (h : Fin 2048) : EReal := accAt m c n (ix2 r h)

theorem acc_eq (c : Dev nD) (n : ℕ) (r : Fin 2) (h : Fin 2048) :
    acc m c n r h = ∑ k ∈ Finset.range (n + 1), part m c k r h := by
  induction n with
  | zero => rw [Finset.sum_range_one]; exact pay2_read _ _ _ r h
  | succ n ih => rw [Finset.sum_range_succ, ← ih]; exact pay3_read _ _ _ _ r h

theorem acc_row0 (c : Dev nD) (h : Fin 2048) :
    acc m c 7 0 h = ∑ b, Value.gate (logit m c b) * (rows m c (ix2 b h) : EReal) := by
  rw [acc_eq, ← Fin.sum_univ_eq_sum_range (fun k => part m c k 0 h), ← Value.sum_blocks]
  refine Finset.sum_congr rfl fun n _ => ?_
  unfold part
  rw [pay1_row0]
  refine Finset.sum_congr rfl fun b _ => ?_
  rw [blkLogit_eq, blk_tok m c n b h]

theorem acc_row1 (c : Dev nD) (h : Fin 2048) :
    acc m c 7 1 h = ∑ b, Value.gate (logit m c b) := by
  rw [acc_eq, ← Fin.sum_univ_eq_sum_range (fun k => part m c k 1 h), ← Value.sum_blocks]
  refine Finset.sum_congr rfl fun n _ => ?_
  unfold part
  rw [pay1_row1]
  exact Finset.sum_congr rfl fun b _ => by rw [blkLogit_eq]

end Cert.KernelIdeal.Hand

end
-- ==== Proof.Value.Stripe.lean ====
/-
  What the kernel's copies carry, read at an index: the result's row `k` at column `h` is the accumulated row's product with
  row `h` of the expert's weights, plus the accumulated gate sum times the bias.
-/
module

public import proofs.«01_k».proof.Proof.KernelIdeal.Geo
public import Idealize.ShloMosaic.Lib.Pipeline.ValueKit.Point
public import Idealize.ShloMosaic.Lib.ValueLayout

@[expose] public section

noncomputable section

namespace Cert.KernelIdeal.Hand

open Cert.KernelIdeal Cert.KernelIdeal.Gen Idealize.ShloMosaic Idealize.ShloMosaic.TcCoe Idealize.SL.Sem

variable {F : FTy → Type} [FloatOps F]

/-! ## Where the boxes put an index -/

theorem emb_wrows (k : Fin 4) (r : Fin 512) (j : Fin 2048) :
    (wrows k).view.emb (ix2 r j) = ix2 ⟨512 * k.val + r.val, by omega⟩ j := by
  show (wrowsR k).emb (ix2 r j) = _
  funext a; apply Fin.ext
  fin_cases a
  · show 512 * k.val + 1 * r.val = 512 * k.val + r.val; omega
  · show 0 + 1 * j.val = j.val; omega

theorem emb_owin (k : Fin 4) (i : Fin 16) (r j : Fin 512) :
    (owin k i).view.emb (ix2 r j) = ix2 ⟨512 * i.val + r.val, by omega⟩ ⟨512 * k.val + j.val, by omega⟩ := by
  show (owinR k i).emb (ix2 r j) = _
  funext a; apply Fin.ext
  fin_cases a
  · show 512 * i.val + 1 * r.val = 512 * i.val + r.val; omega
  · show 512 * k.val + 1 * j.val = 512 * k.val + j.val; omega

theorem emb_wslotR (k : Fin 4) (r : Fin 512) (j : Fin 2048) : (wslotR k).emb (ix3 0 r j) = ix3 k r j := by
  funext a; apply Fin.ext
  fin_cases a
  · show k.val + 1 * 0 = k.val; omega
  · show 0 + 1 * r.val = r.val; omega
  · show 0 + 1 * j.val = j.val; omega

theorem emb_sslotR (k : Fin 4) (r j : Fin 512) : (sslotR k).emb (ix3 0 r j) = ix3 k r j := by
  funext a; apply Fin.ext
  fin_cases a
  · show k.val + 1 * 0 = k.val; omega
  · show 0 + 1 * r.val = r.val; omega
  · show 0 + 1 * j.val = j.val; omega

theorem emb_bcolsR (k : Fin 4) (j : Fin 512) : (bcolsR k).emb (ix2 0 j) = ix2 0 ⟨512 * k.val + j.val, by omega⟩ := by
  funext a; apply Fin.ext
  fin_cases a
  · show 0 + 1 * 0 = 0; omega
  · show 512 * k.val + 1 * j.val = 512 * k.val + j.val; omega

/-- Dropping a leading axis of one keeps the other two coordinates. -/
theorem unsqueeze {a b : ℕ} (h : (⟨2, ![a, b]⟩ : Shape).numel = (⟨3, ![1, a, b]⟩ : Shape).numel) (r : Fin a) (j : Fin b) :
    Shape.reshapeEquiv h (ix2 r j) = ix3 0 r j := ValueIdx.reshapeEquiv_ix2_1ab h r j

theorem emb_wslot (k : Fin 4) (r : Fin 512) (j : Fin 2048) : (wslot k).view.emb (ix2 r j) = ix3 k r j := by
  rw [← emb_wslotR]
  exact congrArg (wslotR k).emb (unsqueeze (a := 512) (b := 2048) _ r j)

theorem emb_sslot (k : Fin 4) (r j : Fin 512) : (sslot k).view.emb (ix2 r j) = ix3 k r j := by
  rw [← emb_sslotR]
  exact congrArg (sslotR k).emb (unsqueeze (a := 512) (b := 512) _ r j)

/-! ## The buffers' contents -/

/-- The weight buffers hold the weight rows. -/
theorem wbF_read (We : main_arg3.ty.Contents (Elt F)) (k : Fin 4) (r : Fin 512) (j : Fin 2048) :
    wbF We (ix3 k r j) = We (ix2 ⟨512 * k.val + r.val, by omega⟩ j) := by
  unfold wbF
  show (wslot k).view.write (Elt F) blankW ((wrows k).view.read (Elt F) We) Finset.univ (ix3 k r j) = _
  rw [← emb_wslot, View.write_emb_of_mem _ _ (Finset.mem_univ _), ← emb_wrows]
  rfl

theorem sbF_read (ac : cc0_scratch0.ty.Contents (Elt F)) (wb : cc0_scratch1.ty.Contents (Elt F)) (be : S1x2048.Idx → Elt F .f32)
    (k : Fin 4) (r : Fin 512) (j : Fin 512) : sbF ac wb be (ix3 k r j) = fillF k ac wb be (ix3 0 r j) := by
  have hi : (scS.access (sslotR k)).emb (ix3 0 r j) = ix3 k r j := emb_sslotR k r j
  unfold sbF
  show (scS.access (sslotR k)).write (Elt F) blankS (fillF k ac wb be) Finset.univ (ix3 k r j) = _
  rw [← hi, View.write_emb_of_mem _ _ (Finset.mem_univ _)]
  rfl

theorem outF_read (sb : cc0_scratch2.ty.Contents (Elt F)) (i : Fin 16) (k : Fin 4) (r j : Fin 512) :
    outF sb (ix2 ⟨512 * i.val + r.val, by omega⟩ ⟨512 * k.val + j.val, by omega⟩) = sb (ix3 k r j) := by
  have hp : partO (ix2 ⟨512 * i.val + r.val, by omega⟩ ⟨512 * k.val + j.val, by omega⟩) = (k, i) :=
    Prod.ext (Fin.ext (by show (512 * k.val + j.val) / 512 = k.val; omega)) (Fin.ext (by show (512 * i.val + r.val) / 512 = i.val; omega))
  unfold outF
  rw [hp, ← emb_owin, View.write_emb_of_mem _ _ (Finset.mem_univ _), ← emb_sslot]
  rfl

theorem read_row (ac : cc0_scratch0.ty.Contents (Elt F)) (x : Fin 2048) :
    View.readAt (Elt F) (View.whole cc0_scratch0) (Rect.unit (s := S2x2048) ![0, 0] ![1, 2048] inb_S2x2048_S1x2048_0_0).toLoadRect ac (ix2 (0 : Fin 1) x)
      = ac (ix2 0 x) := by
  refine congrArg ac (funext fun a => Fin.ext ?_)
  fin_cases a
  · show 0 + 1 * 0 = 0; omega
  · show 0 + 1 * x.val = x.val; omega

theorem read_sum (ac : cc0_scratch0.ty.Contents (Elt F)) :
    View.readAt (Elt F) (View.whole cc0_scratch0) (Rect.unit (s := S2x2048) ![1, 0] ![1, 1] inb_S2x2048_S1x1_1_0).toLoadRect ac (ix2 (0 : Fin 1) (0 : Fin 1))
      = ac (ix2 1 0) := by
  refine congrArg ac (funext fun a => Fin.ext ?_)
  fin_cases a <;> rfl

theorem read_weights (wb : cc0_scratch1.ty.Contents (Elt F)) (k : Fin 4) (j : Fin 512) (x : Fin 2048) :
    View.readAt (Elt F) (View.whole cc0_scratch1) (wslotR k).toLoadRect wb (ix3 0 j x) = wb (ix3 k j x) :=
  congrArg wb (emb_wslotR k j x)

/-- What a stripe buffer is filled with, at ideal values. -/
theorem fillF_read (k : Fin 4) (ac : S2x2048.Idx → Elt Ideal .f32) (We : main_arg3.ty.Contents (Elt Ideal)) (be : S1x2048.Idx → Elt Ideal .f32)
    (r j : Fin 512) :
    fillF k ac (wbF We) be (ix3 0 r j) = ∑ x : Fin 2048, ac (ix2 0 x) * We (ix2 ⟨512 * k.val + j.val, by omega⟩ x)
      + ac (ix2 1 0) * be (ix2 0 ⟨512 * k.val + j.val, by omega⟩) := by
  unfold fillF
  pointwise [k0_pay4]
  rw [read_sum]
  rw [emb_bcolsR]
  refine Ideal.add_congr (Finset.sum_congr rfl fun x _ => ?_) rfl
  rw [read_row, read_weights, wbF_read]

/-- The kernel's matrix at an index. -/
theorem outF_apply (ac : S2x2048.Idx → Elt Ideal .f32) (We : main_arg3.ty.Contents (Elt Ideal)) (be : S1x2048.Idx → Elt Ideal .f32)
    (b : Fin 8192) (h : Fin 2048) :
    outF (sbF ac (wbF We) be) (ix2 b h) = ∑ x : Fin 2048, ac (ix2 0 x) * We (ix2 h x) + ac (ix2 1 0) * be (ix2 0 h) := by
  have hb : b = ⟨512 * (⟨b.val / 512, by omega⟩ : Fin 16).val + (⟨b.val % 512, by omega⟩ : Fin 512).val, by dsimp only; omega⟩ := Fin.ext (by dsimp only; omega)
  have hh : h = ⟨512 * (⟨h.val / 512, by omega⟩ : Fin 4).val + (⟨h.val % 512, by omega⟩ : Fin 512).val, by dsimp only; omega⟩ := Fin.ext (by dsimp only; omega)
  rw [hb, hh, outF_read, sbF_read, fillF_read]

end Cert.KernelIdeal.Hand

end
-- ==== Proof.Value.RefRead.lean ====
/-
  The reference's stages read at an index: logits, softmax, gates, one-hot rows and the result.
-/
module

public import proofs.«01_k».proof.Proof.ReferenceIdeal.Run
public import proofs.«01_k».proof.Proof.Value.Gate

@[expose] public section

noncomputable section

namespace Cert.ReferenceIdeal.Hand

open Idealize.ShloMosaic Cert.ReferenceIdeal Cert.ReferenceIdeal.Gen

theorem logits_read (x : FVec Ideal S4x2048x2048 .f32) (wr : FVec Ideal S8x2048 .f32) (br : FVec Ideal S8 .f32) (b : Fin 8192) (e : Fin 8) :
    logits x wr br (ix2 b e) = ∑ j, toks x (ix2 b j) * wr (ix2 e j) + br (ix1 e) := by
  pointwise [logits]

theorem outs_read (x : FVec Ideal S4x2048x2048 .f32) (we : FVec Ideal S2048x2048 .f32) (be : FVec Ideal S2048 .f32) (b : Fin 8192) (h : Fin 2048) :
    outs x we be (ix2 b h) = ∑ j, toks x (ix2 b j) * we (ix2 h j) + be (ix1 h) := by
  pointwise [outs]

/-- The gate of a row of real logits is one over its sum of exponentials. -/
theorem gates_read (l : FVec Ideal S8192x8 .f32) (b : Fin 8192) (hl : ∀ e, Value.IsReal (l (ix2 b e))) :
    gates (soft l) (ix1 b) = Value.gate (fun e => l (ix2 b e)) := by
  rw [← Value.top_soft hl]
  pointwise [gates, soft, exps, spread, tops]
  rw [Value.ofBits_bot, max_eq_right bot_le, ← Value.ofBits_bot]
  rfl

/-- The argmax's step takes its index from one of its two operands. -/
theorem reducer_snd (p q : Ideal .f32 × BitVec 32) :
    (reducer_argmax_f32_i32 p q).2 = p.2 ∨ (reducer_argmax_f32_i32 p q).2 = q.2 := by
  unfold reducer_argmax_f32_i32
  simp only [Scalar.select]
  split
  · exact .inl rfl
  · exact .inr rfl

/-- An expert is chosen among the eight. -/
theorem picks_read (p : FVec Ideal S8192x8 .f32) (j : S8192.Idx) : ∃ k : Fin 8, picks p j = BitVec.ofNat 32 k.val := by
  unfold picks
  rw [Ideal.argReduce_eq_reduce2, Host.reduce2_eq_foldl_fiber]
  have step : ∀ (L : List (Ideal .f32 × BitVec 32)) (a : Ideal .f32 × BitVec 32), (∃ k : Fin 8, a.2 = BitVec.ofNat 32 k.val) →
      (∀ q ∈ L, ∃ k : Fin 8, q.2 = BitVec.ofNat 32 k.val) → ∃ k : Fin 8, (L.foldl reducer_argmax_f32_i32 a).2 = BitVec.ofNat 32 k.val := by
    intro L
    induction L with
    | nil => intro a ha _; exact ha
    | cons q L ih =>
      intro a ha hL
      refine ih _ ?_ (fun r hr => hL r (List.mem_cons_of_mem _ hr))
      rcases reducer_snd a q with h | h
      · rw [h]; exact ha
      · rw [h]; exact hL q (List.mem_cons_self ..)
  refine step _ _ ⟨0, rfl⟩ fun q hq => ?_
  obtain ⟨n, -, rfl⟩ := List.mem_map.1 hq
  exact ⟨S8192x8.rowMajor.symm n 1, rfl⟩

/-- A one-hot row sums to one. -/
theorem hots_sum (k : IVec S8192 32) (b : Fin 8192) (hk : ∃ n : Fin 8, k (ix1 b) = BitVec.ofNat 32 n.val) :
    ∑ e, hots (F := Ideal) k (ix2 b e) = 1 := by
  obtain ⟨n, hn⟩ := hk
  pointwise [hots]
  rw [hn]
  have h : ∀ e : Fin 8, (FloatOps.uitofp FTy.f32 (IntOp.cmpi CmpIPredicate.eq (BitVec.ofNat 32 n.val) (BitVec.ofNat 32 e.val)) : Ideal .f32)
      = if n = e then (1 : EReal) else 0 := by
    intro e
    show (((BitVec.ofBool (BitVec.ofNat 32 n.val == BitVec.ofNat 32 e.val)).toNat : ℝ) : EReal) = _
    have hne : n = e ↔ BitVec.ofNat 32 n.val = BitVec.ofNat 32 e.val := by
      refine ⟨fun h => by rw [h], fun h => ?_⟩
      have := congrArg BitVec.toNat h
      rw [BitVec.toNat_ofNat, BitVec.toNat_ofNat, Nat.mod_eq_of_lt (by omega), Nat.mod_eq_of_lt (by omega)] at this
      exact Fin.ext this
    by_cases hb : BitVec.ofNat 32 n.val = BitVec.ofNat 32 e.val
    · rw [if_pos (hne.2 hb), beq_iff_eq.2 hb]; simp
    · rw [if_neg (mt hne.1 hb), beq_eq_false_iff_ne.2 hb]; simp
  rw [Finset.sum_congr rfl fun e _ => h e]
  simp

/-- The reference's result at an index: the gated sum of the expert's outputs, whatever the row. -/
theorem refVal_read (x : FVec Ideal S4x2048x2048 .f32) (wr : FVec Ideal S8x2048 .f32) (br : FVec Ideal S8 .f32) (we : FVec Ideal S2048x2048 .f32) (be : FVec Ideal S2048 .f32)
    (hl : ∀ b e, Value.IsReal (logits x wr br (ix2 b e))) (a : Fin 4) (b : Fin 2048) (h : Fin 2048) :
    refVal x wr br we be (ix3 a b h)
      = ∑ b : Fin 8192, Value.gate (fun e => logits x wr br (ix2 b e)) * (∑ j, toks x (ix2 b j) * we (ix2 h j) + be (ix1 h)) := by
  pointwise [refVal, prods]
  rw [hots_sum _ _ (picks_read _ _), one_mul]
  exact Finset.sum_congr rfl fun b _ => by rw [gates_read _ b (hl b), outs_read]

end Cert.ReferenceIdeal.Hand

end
-- ==== Proof.Value.Finite.lean ====
/-
  The precondition, decoded: every element of the first four arguments is a real number.
-/
module

public import proofs.«01_k».proof.Proof.Value.Gate
public import proofs.«01_k».proof.Defs

@[expose] public section

noncomputable section

namespace Cert.Value

open Idealize.ShloMosaic Idealize.ShloMosaic.TcCoe Idealize.SL.Sem

/-- The pattern of plus infinity is the largest extended real. -/
theorem ofBits_top : Ideal.ofBits FTy.f32 2139095040#32 = (⊤ : EReal) := by simp [Ideal.ofBits, Ideal.ieee]

/-- An element below plus infinity in absolute value is a real. -/
theorem real_of_abs_lt (x : EReal) (h : Ideal.cmp CmpFPredicate.olt (max x (-x)) (Ideal.ofBits FTy.f32 2139095040#32) = 1#1) : IsReal x := by
  rw [ofBits_top] at h
  have hlt : max x (-x) < ⊤ := by
    by_contra hn
    simp [Ideal.cmp, hn] at h
  induction x with
  | bot => simp at hlt
  | top => simp at hlt
  | coe r => exact ⟨r, rfl⟩

/-- One argument's line of the precondition, at an index. -/
theorem real_of_line {s u : Shape} (x : FVec Ideal s .f32) (d : Fin u.rank → Fin s.rank) (hb : u.BroadcastsInDim s d) (i : s.Idx)
    (h : cmpf .olt (Host.absf x) (broadcastInDim s d hb (constant u .f32 0x7F800000#32)) = fun _ => 1#1) : IsReal (x i) :=
  real_of_abs_lt (x i) (congrFun h i)

/-- The precondition's side conditions. -/
theorem finite_facts : Cert.Pre_finite.Facts where
  bcast_S_S4x2048x2048 := by decide
  bcast_S_S8x2048 := by decide
  bcast_S_S8 := by decide
  bcast_S_S2048x2048 := by decide

/-- The tokens, the router and the expert's weights on core `c`, element by element; nothing is asked of the expert's bias. -/
structure Reals (m : (ℓ : Loc Cert.KernelIdeal.nD Cert.KernelIdeal.τ Cert.KernelIdeal.sig) → Buf (Elt Ideal) ℓ) (c : Dev Cert.KernelIdeal.nD) : Prop where
  tok : ∀ i, IsReal (m ((c : Thread Cert.KernelIdeal.nD Cert.KernelIdeal.τ).loc Cert.KernelIdeal.main_arg0) i)
  wr : ∀ i, IsReal (m ((c : Thread Cert.KernelIdeal.nD Cert.KernelIdeal.τ).loc Cert.KernelIdeal.main_arg1) i)
  br : ∀ i, IsReal (m ((c : Thread Cert.KernelIdeal.nD Cert.KernelIdeal.τ).loc Cert.KernelIdeal.main_arg2) i)
  we : ∀ i, IsReal (m ((c : Thread Cert.KernelIdeal.nD Cert.KernelIdeal.τ).loc Cert.KernelIdeal.main_arg3) i)

/-- The precondition says that every such element is a real. -/
theorem reals_of_pre [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Reals m c where
  tok i := real_of_line _ _ _ i (h c).1
  wr i := real_of_line _ _ _ i (h c).2.1
  br i := real_of_line _ _ _ i (h c).2.2.1
  we i := real_of_line _ _ _ i (h c).2.2.2

end Cert.Value

end
-- ==== Proof.Value.Equal.lean ====
/-
  The two programs' results are equal: the kernel's result at an index, the reference's at the same index, and the algebra
  between them.
-/
module

public import proofs.«01_k».proof.Proof.Value.KernelRead
public import proofs.«01_k».proof.Proof.Value.Stripe
public import proofs.«01_k».proof.Proof.Value.RefRead
public import proofs.«01_k».proof.Proof.Value.Finite

@[expose] public section

noncomputable section

namespace Cert.Value

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- The five arguments. -/
abbrev tokens : FVec Ideal S4x2048x2048 .f32 := m ((c : Thread nD τ).loc main_arg0)
abbrev routerW : FVec Ideal S8x2048 .f32 := m ((c : Thread nD τ).loc main_arg1)
abbrev routerB : FVec Ideal S8 .f32 := m ((c : Thread nD τ).loc main_arg2)
abbrev expertW : FVec Ideal S2048x2048 .f32 := m ((c : Thread nD τ).loc main_arg3)
abbrev expertB : FVec Ideal S2048 .f32 := m ((c : Thread nD τ).loc main_arg4)

/-- The host's last line reshapes the kernel's matrix. -/
theorem after_reshape (W : Valuation τ sig (Elt Ideal)) :
    StableHlo.after hostOps1 W (Proc.devRef .tc main_v4)
      = (shapeCast S4x2048x2048 (W (Proc.devRef .tc main_v3)) shapeCasts_S8192x2048_S4x2048x2048 : FVec Ideal S4x2048x2048 .f32) := by
  unfold hostOps1
  after_reads_simp
  generalize W (Proc.devRef .tc main_v3) = o
  rfl

/-- The kernel's result is its matrix, reshaped. -/
theorem result_eq : result m c = (shapeCast S4x2048x2048 (outAt m c) shapeCasts_S8192x2048_S4x2048x2048 : FVec Ideal S4x2048x2048 .f32) := by
  refine (after_reshape (VE m c)).trans ?_
  rw [VE_v3]

/-- A matrix of 8192 rows as four slabs of 2048, read at an index. -/
theorem slabs_read (o : FVec Ideal S8192x2048 .f32) (a : Fin 4) (b h : Fin 2048) :
    shapeCast S4x2048x2048 o shapeCasts_S8192x2048_S4x2048x2048 (ix3 a b h) = o (ix2 ⟨a.val * 2048 + b.val, by omega⟩ h) := by
  pointwise

/-- The kernel's matrix at an index. -/
theorem out_read (b : Fin 8192) (h : Fin 2048) :
    (outAt m c (ix2 b h) : EReal) = ∑ x : Fin 2048, acc m c 7 0 x * expertW m c (ix2 h x) + acc m c 7 1 0 * expertB m c (ix1 h) := by
  have e : We m c = m ((c : Thread nD τ).loc main_arg3) := V_main_arg3 m c
  refine (outF_apply (accAt m c 7) (We m c) (be m c) b h).trans ?_
  rw [blk_be, e]
  unfold acc
  generalize accAt m c 7 = A
  rfl

/-- The kernel's result at an index. -/
theorem result_read (a : Fin 4) (b h : Fin 2048) :
    (result m c (ix3 a b h) : EReal) = ∑ x : Fin 2048, acc m c 7 0 x * expertW m c (ix2 h x) + acc m c 7 1 0 * expertB m c (ix1 h) :=
  (congrFun (result_eq m c) _).trans ((slabs_read (outAt m c) a b h).trans (out_read m c _ h))

variable {m c}

/-- A token's entries are reals. -/
theorem row_real (H : Reals m c) (b : Fin 8192) (j : Fin 2048) : IsReal (rows m c (ix2 b j)) := H.tok _

/-- A token's logits are reals. -/
theorem logit_real (H : Reals m c) (b : Fin 8192) (e : Fin 8) : IsReal (logit m c b e) :=
  (IsReal.sum _ _ fun j => (row_real H b j).mul (H.wr _)).add (H.br _)

/-- The reference's logits are the kernel's. -/
theorem logits_eq (b : Fin 8192) (e : Fin 8) :
    Cert.ReferenceIdeal.Hand.logits (tokens m c) (routerW m c) (routerB m c) (ix2 b e) = logit m c b e :=
  Cert.ReferenceIdeal.Hand.logits_read _ _ _ b e

/-- The two results, element by element. -/
theorem result_eq_ref (H : Reals m c) :
    result m c = Cert.ReferenceIdeal.Hand.refVal (tokens m c) (routerW m c) (routerB m c) (expertW m c) (expertB m c) := by
  funext i
  obtain ⟨a, b, h, rfl⟩ : ∃ (a : Fin 4) (b h : Fin 2048), i = ix3 a b h := ⟨i 0, i 1, i 2, eq_ix3 i⟩
  refine (result_read m c a b h).trans ?_
  rw [Cert.ReferenceIdeal.Hand.refVal_read _ _ _ _ _ (fun b e => by rw [logits_eq]; exact logit_real H b e)]
  simp only [logits_eq]
  refine Eq.trans ?_ (gated_sum (fun b => gate (logit m c b)) (fun b j => rows m c (ix2 b j)) (fun j => expertW m c (ix2 h j)) (expertB m c (ix1 h))
    (fun b => gate_real (logit_real H b)) (fun b => gate_nonneg (logit_real H b)) (row_real H) (fun j => H.we _)).symm
  simp only [acc_row0, acc_row1]

end Cert.Value

end
-- ==== Proof.Algebraic.lean ====
/-
  The value claim: on finite arguments the kernel and the reference end with the same result.
-/
module

public import proofs.«01_k».proof.Proof.Value.Equal

@[expose] public section

noncomputable section

namespace Cert.Value

open Idealize.ShloMosaic Idealize.ShloMosaic.TcCoe Idealize.SL.Sem

/-- Both runs end with the kernel's result, which is the reference's at the agreeing arguments. -/
theorem algebraic : @Cert.algebraic_KernelIdeal_ReferenceIdeal_pre_finite Cert.KernelIdeal.Gen.facts Cert.ReferenceIdeal.Gen.facts finite_facts := by
  intro m g m' g' hpre hagree
  letI := finite_facts
  refine ⟨fun c => Cert.KernelIdeal.Hand.result m c,
    (θ_run _ _ _).mono (fun r h => h.1) (Cert.KernelIdeal.Hand.run_result m g),
    (θ_run _ _ _).mono (fun r h c => ?_) (Cert.ReferenceIdeal.Hand.run_result m' g')⟩
  refine ⟨(h.1 c).1.trans ?_, (h.1 c).2⟩
  obtain ⟨h0, h1, h2, h3, h4⟩ := hagree c
  rw [h0, h1, h2, h3, h4]
  exact (result_eq_ref (reals_of_pre m hpre c)).symm

end Cert.Value

end
-- ==== Proof.lean ====
/-
  The certificate: the frames of the kernel and of its idealization from the kernel's run (Proof/KernelIdeal), the reference's
  frame from its run (Proof/ReferenceIdeal), the value claim from the two results read at an index (Proof/Value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame
public import proofs.«01_k».proof.Proof.ReferenceIdeal.Run
public import proofs.«01_k».proof.Proof.Algebraic

@[expose] public section

noncomputable section

namespace Cert.Proof

/-- Every claim of the certificate. A frame under the precondition is the frame without it. -/
theorem claim : Cert.Claim := ⟨Cert.Kernel.Gen.facts, Cert.KernelIdeal.Gen.facts, Cert.ReferenceIdeal.Gen.facts, Cert.Value.finite_facts,
  Cert.KernelIdeal.Hand.frame_printed, Cert.KernelIdeal.Hand.frame_ideal, fun m g _ => Cert.KernelIdeal.Hand.frame_ideal m g trivial,
  Cert.ReferenceIdeal.Hand.frame_reference, fun m g _ => Cert.ReferenceIdeal.Hand.frame_reference m g trivial, trivial,
  Cert.Value.algebraic⟩

end Cert.Proof

end
